-- ==== Defs.lean ====
def Pre_Kernel [hPre_fragments_in_range : Cert.Pre_fragments_in_range.Facts] (m : (ℓ : Loc Cert.Kernel.nD Cert.Kernel.τ Cert.Kernel.sig) → Buf (Elt Bits) ℓ) : Prop :=
  ∀ c : Dev Cert.Kernel.nD,
    (Cert.Pre_fragments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_fragments_in_range : Cert.Pre_fragments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_fragments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fragments_in_range [hPre_fragments_in_range : Cert.Pre_fragments_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fragments_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_fragments_in_range : Cert.Pre_fragments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_fragments_in_range : Cert.Pre_fragments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fragments_in_range [hReferenceIdeal : Cert.ReferenceIdeal.Facts] [hPre_fragments_in_range : Cert.Pre_fragments_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fragments_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_fragments_in_range : Cert.Pre_fragments_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_fragments_in_range : Cert.Pre_fragments_in_range.Facts),
    quiescent_Kernel (hKernel := hKernel) (hPre_fragments_in_range := hPre_fragments_in_range)
    ∧ quiescent_KernelIdeal (hKernelIdeal := hKernelIdeal) (hPre_fragments_in_range := hPre_fragments_in_range)
    ∧ quiescent_ReferenceIdeal (hReferenceIdeal := hReferenceIdeal)
    ∧ quiescent_ReferenceIdeal_pre_fragments_in_range (hReferenceIdeal := hReferenceIdeal) (hPre_fragments_in_range := hPre_fragments_in_range)
    ∧ preserves_Kernel_KernelIdeal
    ∧ algebraic_KernelIdeal_ReferenceIdeal (hKernelIdeal := hKernelIdeal) (hReferenceIdeal := hReferenceIdeal) (hPre_fragments_in_range := hPre_fragments_in_range)
-- ==== Pre_fragments_in_range.lean ====
abbrev S8x8x224x224 : Shape := ⟨4, ![8, 8, 224, 224]⟩
abbrev S4x100000 : Shape := ⟨2, ![4, 100000]⟩
abbrev S_ : Shape := ⟨0, ![]⟩

class Facts : Prop where
  bcast_S_S8x8x224x224 : S_.BroadcastsInDim S8x8x224x224 (![] : Fin 0 → Fin S8x8x224x224.rank)

variable [Facts]

def fn {F : FTy → Type} [FloatOps F] (main_arg0 : IVec S8x8x224x224 32) (main_arg1 : FVec F S8x8x224x224 .f32) (main_arg2 : FVec F S4x100000 .f32) : IVec S8x8x224x224 1 :=
  let main_c : IVec S_ 32 := constantI S_ 32 0#32
  let main_v0 : IVec S8x8x224x224 32 := broadcastInDim S8x8x224x224 ![] bcast_S_S8x8x224x224 main_c
  let main_v1 : IVec S8x8x224x224 1 := cmpi .sge main_arg0 main_v0
  let main_c_0 : IVec S_ 32 := constantI S_ 32 100000#32
  let main_v2 : IVec S8x8x224x224 32 := broadcastInDim S8x8x224x224 ![] bcast_S_S8x8x224x224 main_c_0
  let main_v3 : IVec S8x8x224x224 1 := cmpi .slt main_arg0 main_v2
  let main_v4 : IVec S8x8x224x224 1 := andi main_v1 main_v3
  main_v4
-- ==== Kernel.lean ====
abbrev S8x8x224x224 : Shape := ⟨4, ![8, 8, 224, 224]⟩
abbrev S4x100000 : Shape := ⟨2, ![4, 100000]⟩
abbrev S8x8x50176 : Shape := ⟨3, ![8, 8, 50176]⟩
abbrev S8x4x50176 : Shape := ⟨3, ![8, 4, 50176]⟩
abbrev S100000 : Shape := ⟨1, ![100000]⟩
abbrev S2x8x896 : Shape := ⟨3, ![2, 8, 896]⟩
abbrev S2x896 : Shape := ⟨2, ![2, 896]⟩
abbrev S_ : Shape := ⟨0, ![]⟩
abbrev S1x100000 : Shape := ⟨2, ![1, 100000]⟩
abbrev S1x8x896 : Shape := ⟨3, ![1, 8, 896]⟩
abbrev S8x896 : Shape := ⟨2, ![8, 896]⟩
abbrev S1x896 : Shape := ⟨2, ![1, 896]⟩
abbrev S896 : Shape := ⟨1, ![896]⟩
abbrev S1x1x896 : Shape := ⟨3, ![1, 1, 896]⟩
abbrev S16 : Shape := ⟨1, ![16]⟩
abbrev S1x1x16 : Shape := ⟨3, ![1, 1, 16]⟩
abbrev S1x16 : Shape := ⟨2, ![1, 16]⟩
abbrev S8x4x224x224 : Shape := ⟨4, ![8, 4, 224, 224]⟩
abbrev S8x224x224 : Shape := ⟨3, ![8, 224, 224]⟩

abbrev nBuf : Table → Nat
  | .hbm => 9
  | .local .scVector .vmem => 4
  | _ => 0

abbrev bufTy : (tb : Table) → Fin (nBuf tb) → BufTy
  | .hbm, ⟨0, _⟩ => ⟨S8x8x224x224, .i32⟩
  | .hbm, ⟨1, _⟩ => ⟨S8x8x224x224, .f32⟩
  | .hbm, ⟨2, _⟩ => ⟨S4x100000, .f32⟩
  | .hbm, ⟨3, _⟩ => ⟨S8x8x50176, .i32⟩
  | .hbm, ⟨4, _⟩ => ⟨S8x8x50176, .f32⟩
  | .hbm, ⟨5, _⟩ => ⟨S8x4x50176, .f32⟩
  | .hbm, ⟨6, _⟩ => ⟨S8x4x224x224, .f32⟩
  | .hbm, ⟨7, _⟩ => ⟨S_, .i1⟩
  | .hbm, ⟨8, _⟩ => ⟨S8x224x224, .i1⟩
  | .local .scVector .vmem, ⟨0, _⟩ => ⟨S100000, .f32⟩
  | .local .scVector .vmem, ⟨1, _⟩ => ⟨S2x8x896, .i32⟩
  | .local .scVector .vmem, ⟨2, _⟩ => ⟨S2x8x896, .f32⟩
  | .local .scVector .vmem, ⟨3, _⟩ => ⟨S2x896, .f32⟩
  | _, _ => ⟨S8x8x224x224, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_57_r0 : BitVec 32 := 0#32
  ![v18.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_13 : BitVec 32 := 0#32
  let c0_i32_14 : BitVec 32 := 0#32
  ![v28.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_31 : BitVec 32 := 0#32
  let c896_i32 : BitVec 32 := 896#32
  ![v28.toNat, 0, 896]
@[reducible] def k0_t1_loop : Scf.Loop 32 :=
  let c0_i32_46 : BitVec 32 := 0#32
  let c28_i32 : BitVec 32 := 28#32
  let v61 : BitVec 32 := Scalar.addi c0_i32_46 c28_i32
  let c1_i32_47 : BitVec 32 := 1#32
  ⟨c0_i32_46, v61, c1_i32_47⟩
def k0_off4 (i : grid0.Coords) (k0_t1 : Fin k0_t1_loop.trips) (c0_i32_58 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_64 : BitVec 32 := 0#32
  let c2_i32_57 : BitVec 32 := 2#32
  let c0_i32_46 : BitVec 32 := 0#32
  let c1_i32_47 : BitVec 32 := 1#32
  let arg16 : BitVec 32 := Scf.iv c0_i32_46 c1_i32_47 k0_t1
  let v78 : BitVec 32 := Scalar.muli c2_i32_57 arg16
  let v79 : BitVec 32 := Scalar.addi v78 c0_i32_58
  let c896_i32_59 : BitVec 32 := 896#32
  let v80 : BitVec 32 := Scalar.muli v79 c896_i32_59
  ![v28.toNat, 0, v80.toNat]
def k0_cond1 (k0_t1 : Fin k0_t1_loop.trips) : BitVec 1 :=
  let c2_i32_57 : BitVec 32 := 2#32
  let c0_i32_46 : BitVec 32 := 0#32
  let c1_i32_47 : BitVec 32 := 1#32
  let arg16 : BitVec 32 := Scf.iv c0_i32_46 c1_i32_47 k0_t1
  let v78 : BitVec 32 := Scalar.muli c2_i32_57 arg16
  let c0_i32_58 : BitVec 32 := 0#32
  let v79 : BitVec 32 := Scalar.addi v78 c0_i32_58
  let c2_i32_75 : BitVec 32 := 2#32
  let v98 : BitVec 1 := Scalar.cmpi .sge v79 c2_i32_75
  let v99 : BitVec 32 := Scalar.extui v98
  let c0_i32_76 : BitVec 32 := 0#32
  let v100 : BitVec 1 := Scalar.cmpi .ne v99 c0_i32_76
  v100

def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_57 : BitVec 32 := 2#32
  let c0_i32_46 : BitVec 32 := 0#32
  let c1_i32_47 : BitVec 32 := 1#32
  let arg16 : BitVec 32 := Scf.iv c0_i32_46 c1_i32_47 k0_t1
  let v78 : BitVec 32 := Scalar.muli c2_i32_57 arg16
  let c0_i32_58 : BitVec 32 := 0#32
  let v79 : BitVec 32 := Scalar.addi v78 c0_i32_58
  let c2_i32_118 : BitVec 32 := 2#32
  let v152 : BitVec 32 := Scalar.subi v79 c2_i32_118
  let c896_i32_119 : BitVec 32 := 896#32
  let v153 : BitVec 32 := Scalar.muli v152 c896_i32_119
  ![v28.toNat, v18.toNat, v153.toNat]
@[reducible] def k0_t2_loop : Scf.Loop 32 :=
  let c0_i32_77 : BitVec 32 := 0#32
  let c56_i32 : BitVec 32 := 56#32
  let v101 : BitVec 32 := Scalar.addi c0_i32_77 c56_i32
  let c1_i32_78 : BitVec 32 := 1#32
  ⟨c0_i32_77, v101, c1_i32_78⟩
def k0_mult1 (k0_t2 : Fin k0_t2_loop.trips) : BitVec 32 :=
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  v154
def k0_off6 (k0_t2 : Fin k0_t2_loop.trips) : Fin 3 → Nat :=
  let c0_i32_121 : BitVec 32 := 0#32
  let v158 : Index := Scalar.indexCast c0_i32_121
  let c0_i32_122 : BitVec 32 := 0#32
  let v159 : Index := Scalar.indexCast c0_i32_122
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v160 : Index := Scalar.indexCast v155
  ![0, 0, v160.toNat]

def k0_chk1 (v161 : IVec S16 32) : Prop :=
  (∀ a x, ((![v161] : Fin 1 → IVec S16 32) a x).toNat < S100000.size a)
theorem k0_idx1_inb : ∀ (v161 : IVec S16 32) (k0_hw1 : k0_chk1 v161), ∀ a x, ((![v161] : Fin 1 → IVec S16 32) a x).toNat < S100000.size a := fun v161 k0_hw1 => k0_hw1
def k0_off7 (k0_t2 : Fin k0_t2_loop.trips) : Fin 3 → Nat :=
  let c0_i32_126 : BitVec 32 := 0#32
  let v173 : Index := Scalar.indexCast c0_i32_126
  let c1_i32_127 : BitVec 32 := 1#32
  let v174 : Index := Scalar.indexCast c1_i32_127
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v175 : Index := Scalar.indexCast v155
  ![0, 1, v175.toNat]

def k0_chk2 (v176 : IVec S16 32) : Prop :=
  (∀ a x, ((![v176] : Fin 1 → IVec S16 32) a x).toNat < S100000.size a)
theorem k0_idx2_inb : ∀ (v176 : IVec S16 32) (k0_hw2 : k0_chk2 v176), ∀ a x, ((![v176] : Fin 1 → IVec S16 32) a x).toNat < S100000.size a := fun v176 k0_hw2 => k0_hw2
def k0_off8 (k0_t2 : Fin k0_t2_loop.trips) : Fin 3 → Nat :=
  let c0_i32_131 : BitVec 32 := 0#32
  let v188 : Index := Scalar.indexCast c0_i32_131
  let c2_i32_132 : BitVec 32 := 2#32
  let v189 : Index := Scalar.indexCast c2_i32_132
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v190 : Index := Scalar.indexCast v155
  ![0, 2, v190.toNat]

def k0_chk3 (v191 : IVec S16 32) : Prop :=
  (∀ a x, ((![v191] : Fin 1 → IVec S16 32) a x).toNat < S100000.size a)
theorem k0_idx3_inb : ∀ (v191 : IVec S16 32) (k0_hw3 : k0_chk3 v191), ∀ a x, ((![v191] : Fin 1 → IVec S16 32) a x).toNat < S100000.size a := fun v191 k0_hw3 => k0_hw3
def k0_off9 (k0_t2 : Fin k0_t2_loop.trips) : Fin 3 → Nat :=
  let c0_i32_136 : BitVec 32 := 0#32
  let v203 : Index := Scalar.indexCast c0_i32_136
  let c3_i32 : BitVec 32 := 3#32
  let v204 : Index := Scalar.indexCast c3_i32
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v205 : Index := Scalar.indexCast v155
  ![0, 3, v205.toNat]

def k0_chk4 (v206 : IVec S16 32) : Prop :=
  (∀ a x, ((![v206] : Fin 1 → IVec S16 32) a x).toNat < S100000.size a)
theorem k0_idx4_inb : ∀ (v206 : IVec S16 32) (k0_hw4 : k0_chk4 v206), ∀ a x, ((![v206] : Fin 1 → IVec S16 32) a x).toNat < S100000.size a := fun v206 k0_hw4 => k0_hw4
def k0_off10 (k0_t2 : Fin k0_t2_loop.trips) : Fin 3 → Nat :=
  let c0_i32_140 : BitVec 32 := 0#32
  let v218 : Index := Scalar.indexCast c0_i32_140
  let c4_i32 : BitVec 32 := 4#32
  let v219 : Index := Scalar.indexCast c4_i32
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v220 : Index := Scalar.indexCast v155
  ![0, 4, v220.toNat]

def k0_chk5 (v221 : IVec S16 32) : Prop :=
  (∀ a x, ((![v221] : Fin 1 → IVec S16 32) a x).toNat < S100000.size a)
theorem k0_idx5_inb : ∀ (v221 : IVec S16 32) (k0_hw5 : k0_chk5 v221), ∀ a x, ((![v221] : Fin 1 → IVec S16 32) a x).toNat < S100000.size a := fun v221 k0_hw5 => k0_hw5
def k0_off11 (k0_t2 : Fin k0_t2_loop.trips) : Fin 3 → Nat :=
  let c0_i32_144 : BitVec 32 := 0#32
  let v233 : Index := Scalar.indexCast c0_i32_144
  let c5_i32 : BitVec 32 := 5#32
  let v234 : Index := Scalar.indexCast c5_i32
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v235 : Index := Scalar.indexCast v155
  ![0, 5, v235.toNat]

def k0_chk6 (v236 : IVec S16 32) : Prop :=
  (∀ a x, ((![v236] : Fin 1 → IVec S16 32) a x).toNat < S100000.size a)
theorem k0_idx6_inb : ∀ (v236 : IVec S16 32) (k0_hw6 : k0_chk6 v236), ∀ a x, ((![v236] : Fin 1 → IVec S16 32) a x).toNat < S100000.size a := fun v236 k0_hw6 => k0_hw6
def k0_off12 (k0_t2 : Fin k0_t2_loop.trips) : Fin 3 → Nat :=
  let c0_i32_148 : BitVec 32 := 0#32
  let v248 : Index := Scalar.indexCast c0_i32_148
  let c6_i32 : BitVec 32 := 6#32
  let v249 : Index := Scalar.indexCast c6_i32
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v250 : Index := Scalar.indexCast v155
  ![0, 6, v250.toNat]

def k0_chk7 (v251 : IVec S16 32) : Prop :=
  (∀ a x, ((![v251] : Fin 1 → IVec S16 32) a x).toNat < S100000.size a)
theorem k0_idx7_inb : ∀ (v251 : IVec S16 32) (k0_hw7 : k0_chk7 v251), ∀ a x, ((![v251] : Fin 1 → IVec S16 32) a x).toNat < S100000.size a := fun v251 k0_hw7 => k0_hw7
def k0_off13 (k0_t2 : Fin k0_t2_loop.trips) : Fin 3 → Nat :=
  let c0_i32_152 : BitVec 32 := 0#32
  let v263 : Index := Scalar.indexCast c0_i32_152
  let c7_i32 : BitVec 32 := 7#32
  let v264 : Index := Scalar.indexCast c7_i32
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v265 : Index := Scalar.indexCast v155
  ![0, 7, v265.toNat]

def k0_chk8 (v266 : IVec S16 32) : Prop :=
  (∀ a x, ((![v266] : Fin 1 → IVec S16 32) a x).toNat < S100000.size a)
theorem k0_idx8_inb : ∀ (v266 : IVec S16 32) (k0_hw8 : k0_chk8 v266), ∀ a x, ((![v266] : Fin 1 → IVec S16 32) a x).toNat < S100000.size a := fun v266 k0_hw8 => k0_hw8
def k0_off14 (k0_t2 : Fin k0_t2_loop.trips) : Fin 2 → Nat :=
  let c0_i32_156 : BitVec 32 := 0#32
  let v278 : Index := Scalar.indexCast c0_i32_156
  let c0_i32_119 : BitVec 32 := 0#32
  let c0_i32_77 : BitVec 32 := 0#32
  let c1_i32_78 : BitVec 32 := 1#32
  let arg17 : BitVec 32 := Scf.iv c0_i32_77 c1_i32_78 k0_t2
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v279 : Index := Scalar.indexCast v155
  ![0, v279.toNat]
def k0_off15 (i : grid0.Coords) (k0_t1 : Fin k0_t1_loop.trips) (c0_i32_58 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_57 : BitVec 32 := 2#32
  let c0_i32_46 : BitVec 32 := 0#32
  let c1_i32_47 : BitVec 32 := 1#32
  let arg16 : BitVec 32 := Scf.iv c0_i32_46 c1_i32_47 k0_t1
  let v78 : BitVec 32 := Scalar.muli c2_i32_57 arg16
  let v79 : BitVec 32 := Scalar.addi v78 c0_i32_58
  let c896_i32_80 : BitVec 32 := 896#32
  let v102 : BitVec 32 := Scalar.muli v79 c896_i32_80
  ![v28.toNat, v18.toNat, v102.toNat]
def k0_cond2 (k0_t1 : Fin k0_t1_loop.trips) : BitVec 1 :=
  let c2_i32_57 : BitVec 32 := 2#32
  let c0_i32_46 : BitVec 32 := 0#32
  let c1_i32_47 : BitVec 32 := 1#32
  let arg16 : BitVec 32 := Scf.iv c0_i32_46 c1_i32_47 k0_t1
  let v78 : BitVec 32 := Scalar.muli c2_i32_57 arg16
  let c0_i32_58 : BitVec 32 := 0#32
  let v79 : BitVec 32 := Scalar.addi v78 c0_i32_58
  let c2_i32_84 : BitVec 32 := 2#32
  let v111 : BitVec 32 := Scalar.addi v79 c2_i32_84
  let c56_i32_85 : BitVec 32 := 56#32
  let v112 : BitVec 1 := Scalar.cmpi .slt v111 c56_i32_85
  let v113 : BitVec 32 := Scalar.extui v112
  let c0_i32_86 : BitVec 32 := 0#32
  let v114 : BitVec 1 := Scalar.cmpi .ne v113 c0_i32_86
  v114

def k0_off16 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_124 : BitVec 32 := 0#32
  let c2_i32_57 : BitVec 32 := 2#32
  let c0_i32_46 : BitVec 32 := 0#32
  let c1_i32_47 : BitVec 32 := 1#32
  let arg16 : BitVec 32 := Scf.iv c0_i32_46 c1_i32_47 k0_t1
  let v78 : BitVec 32 := Scalar.muli c2_i32_57 arg16
  let c0_i32_58 : BitVec 32 := 0#32
  let v79 : BitVec 32 := Scalar.addi v78 c0_i32_58
  let c2_i32_118 : BitVec 32 := 2#32
  let v152 : BitVec 32 := Scalar.addi v79 c2_i32_118
  let c896_i32_119 : BitVec 32 := 896#32
  let v153 : BitVec 32 := Scalar.muli v152 c896_i32_119
  ![v28.toNat, 0, v153.toNat]
def k0_cond3 (k0_t1 : Fin k0_t1_loop.trips) : BitVec 1 :=
  let c2_i32_87 : BitVec 32 := 2#32
  let c0_i32_46 : BitVec 32 := 0#32
  let c1_i32_47 : BitVec 32 := 1#32
  let arg16 : BitVec 32 := Scf.iv c0_i32_46 c1_i32_47 k0_t1
  let v115 : BitVec 32 := Scalar.muli c2_i32_87 arg16
  let c1_i32_88 : BitVec 32 := 1#32
  let v116 : BitVec 32 := Scalar.addi v115 c1_i32_88
  let c2_i32_105 : BitVec 32 := 2#32
  let v135 : BitVec 1 := Scalar.cmpi .sge v116 c2_i32_105
  let v136 : BitVec 32 := Scalar.extui v135
  let c0_i32_106 : BitVec 32 := 0#32
  let v137 : BitVec 1 := Scalar.cmpi .ne v136 c0_i32_106
  v137

def k0_off17 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_87 : BitVec 32 := 2#32
  let c0_i32_46 : BitVec 32 := 0#32
  let c1_i32_47 : BitVec 32 := 1#32
  let arg16 : BitVec 32 := Scf.iv c0_i32_46 c1_i32_47 k0_t1
  let v115 : BitVec 32 := Scalar.muli c2_i32_87 arg16
  let c1_i32_88 : BitVec 32 := 1#32
  let v116 : BitVec 32 := Scalar.addi v115 c1_i32_88
  let c2_i32_118 : BitVec 32 := 2#32
  let v152 : BitVec 32 := Scalar.subi v116 c2_i32_118
  let c896_i32_119 : BitVec 32 := 896#32
  let v153 : BitVec 32 := Scalar.muli v152 c896_i32_119
  ![v28.toNat, v18.toNat, v153.toNat]
@[reducible] def k0_t3_loop : Scf.Loop 32 :=
  let c0_i32_107 : BitVec 32 := 0#32
  let c56_i32_108 : BitVec 32 := 56#32
  let v138 : BitVec 32 := Scalar.addi c0_i32_107 c56_i32_108
  let c1_i32_109 : BitVec 32 := 1#32
  ⟨c0_i32_107, v138, c1_i32_109⟩
def k0_mult2 (k0_t3 : Fin k0_t3_loop.trips) : BitVec 32 :=
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  v154
def k0_off18 (k0_t3 : Fin k0_t3_loop.trips) : Fin 3 → Nat :=
  let c1_i32_121 : BitVec 32 := 1#32
  let v158 : Index := Scalar.indexCast c1_i32_121
  let c0_i32_122 : BitVec 32 := 0#32
  let v159 : Index := Scalar.indexCast c0_i32_122
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v160 : Index := Scalar.indexCast v155
  ![1, 0, v160.toNat]

def k0_chk9 (v161 : IVec S16 32) : Prop :=
  (∀ a x, ((![v161] : Fin 1 → IVec S16 32) a x).toNat < S100000.size a)
theorem k0_idx9_inb : ∀ (v161 : IVec S16 32) (k0_hw9 : k0_chk9 v161), ∀ a x, ((![v161] : Fin 1 → IVec S16 32) a x).toNat < S100000.size a := fun v161 k0_hw9 => k0_hw9
def k0_off19 (k0_t3 : Fin k0_t3_loop.trips) : Fin 3 → Nat :=
  let c1_i32_126 : BitVec 32 := 1#32
  let v173 : Index := Scalar.indexCast c1_i32_126
  let c1_i32_127 : BitVec 32 := 1#32
  let v174 : Index := Scalar.indexCast c1_i32_127
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v175 : Index := Scalar.indexCast v155
  ![1, 1, v175.toNat]

def k0_chk10 (v176 : IVec S16 32) : Prop :=
  (∀ a x, ((![v176] : Fin 1 → IVec S16 32) a x).toNat < S100000.size a)
theorem k0_idx10_inb : ∀ (v176 : IVec S16 32) (k0_hw10 : k0_chk10 v176), ∀ a x, ((![v176] : Fin 1 → IVec S16 32) a x).toNat < S100000.size a := fun v176 k0_hw10 => k0_hw10
def k0_off20 (k0_t3 : Fin k0_t3_loop.trips) : Fin 3 → Nat :=
  let c1_i32_131 : BitVec 32 := 1#32
  let v188 : Index := Scalar.indexCast c1_i32_131
  let c2_i32_132 : BitVec 32 := 2#32
  let v189 : Index := Scalar.indexCast c2_i32_132
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v190 : Index := Scalar.indexCast v155
  ![1, 2, v190.toNat]

def k0_chk11 (v191 : IVec S16 32) : Prop :=
  (∀ a x, ((![v191] : Fin 1 → IVec S16 32) a x).toNat < S100000.size a)
theorem k0_idx11_inb : ∀ (v191 : IVec S16 32) (k0_hw11 : k0_chk11 v191), ∀ a x, ((![v191] : Fin 1 → IVec S16 32) a x).toNat < S100000.size a := fun v191 k0_hw11 => k0_hw11
def k0_off21 (k0_t3 : Fin k0_t3_loop.trips) : Fin 3 → Nat :=
  let c1_i32_136 : BitVec 32 := 1#32
  let v203 : Index := Scalar.indexCast c1_i32_136
  let c3_i32 : BitVec 32 := 3#32
  let v204 : Index := Scalar.indexCast c3_i32
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v205 : Index := Scalar.indexCast v155
  ![1, 3, v205.toNat]

def k0_chk12 (v206 : IVec S16 32) : Prop :=
  (∀ a x, ((![v206] : Fin 1 → IVec S16 32) a x).toNat < S100000.size a)
theorem k0_idx12_inb : ∀ (v206 : IVec S16 32) (k0_hw12 : k0_chk12 v206), ∀ a x, ((![v206] : Fin 1 → IVec S16 32) a x).toNat < S100000.size a := fun v206 k0_hw12 => k0_hw12
def k0_off22 (k0_t3 : Fin k0_t3_loop.trips) : Fin 3 → Nat :=
  let c1_i32_140 : BitVec 32 := 1#32
  let v218 : Index := Scalar.indexCast c1_i32_140
  let c4_i32 : BitVec 32 := 4#32
  let v219 : Index := Scalar.indexCast c4_i32
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v220 : Index := Scalar.indexCast v155
  ![1, 4, v220.toNat]

def k0_chk13 (v221 : IVec S16 32) : Prop :=
  (∀ a x, ((![v221] : Fin 1 → IVec S16 32) a x).toNat < S100000.size a)
theorem k0_idx13_inb : ∀ (v221 : IVec S16 32) (k0_hw13 : k0_chk13 v221), ∀ a x, ((![v221] : Fin 1 → IVec S16 32) a x).toNat < S100000.size a := fun v221 k0_hw13 => k0_hw13
def k0_off23 (k0_t3 : Fin k0_t3_loop.trips) : Fin 3 → Nat :=
  let c1_i32_144 : BitVec 32 := 1#32
  let v233 : Index := Scalar.indexCast c1_i32_144
  let c5_i32 : BitVec 32 := 5#32
  let v234 : Index := Scalar.indexCast c5_i32
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v235 : Index := Scalar.indexCast v155
  ![1, 5, v235.toNat]

def k0_chk14 (v236 : IVec S16 32) : Prop :=
  (∀ a x, ((![v236] : Fin 1 → IVec S16 32) a x).toNat < S100000.size a)
theorem k0_idx14_inb : ∀ (v236 : IVec S16 32) (k0_hw14 : k0_chk14 v236), ∀ a x, ((![v236] : Fin 1 → IVec S16 32) a x).toNat < S100000.size a := fun v236 k0_hw14 => k0_hw14
def k0_off24 (k0_t3 : Fin k0_t3_loop.trips) : Fin 3 → Nat :=
  let c1_i32_148 : BitVec 32 := 1#32
  let v248 : Index := Scalar.indexCast c1_i32_148
  let c6_i32 : BitVec 32 := 6#32
  let v249 : Index := Scalar.indexCast c6_i32
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v250 : Index := Scalar.indexCast v155
  ![1, 6, v250.toNat]

def k0_chk15 (v251 : IVec S16 32) : Prop :=
  (∀ a x, ((![v251] : Fin 1 → IVec S16 32) a x).toNat < S100000.size a)
theorem k0_idx15_inb : ∀ (v251 : IVec S16 32) (k0_hw15 : k0_chk15 v251), ∀ a x, ((![v251] : Fin 1 → IVec S16 32) a x).toNat < S100000.size a := fun v251 k0_hw15 => k0_hw15
def k0_off25 (k0_t3 : Fin k0_t3_loop.trips) : Fin 3 → Nat :=
  let c1_i32_152 : BitVec 32 := 1#32
  let v263 : Index := Scalar.indexCast c1_i32_152
  let c7_i32 : BitVec 32 := 7#32
  let v264 : Index := Scalar.indexCast c7_i32
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v265 : Index := Scalar.indexCast v155
  ![1, 7, v265.toNat]

def k0_chk16 (v266 : IVec S16 32) : Prop :=
  (∀ a x, ((![v266] : Fin 1 → IVec S16 32) a x).toNat < S100000.size a)
theorem k0_idx16_inb : ∀ (v266 : IVec S16 32) (k0_hw16 : k0_chk16 v266), ∀ a x, ((![v266] : Fin 1 → IVec S16 32) a x).toNat < S100000.size a := fun v266 k0_hw16 => k0_hw16
def k0_off26 (k0_t3 : Fin k0_t3_loop.trips) : Fin 2 → Nat :=
  let c1_i32_156 : BitVec 32 := 1#32
  let v278 : Index := Scalar.indexCast c1_i32_156
  let c0_i32_119 : BitVec 32 := 0#32
  let c0_i32_107 : BitVec 32 := 0#32
  let c1_i32_109 : BitVec 32 := 1#32
  let arg17 : BitVec 32 := Scf.iv c0_i32_107 c1_i32_109 k0_t3
  let c1_i32_118 : BitVec 32 := 1#32
  let v152 : BitVec 32 := Scalar.muli arg17 c1_i32_118
  let v153 : BitVec 32 := Scalar.addi c0_i32_119 v152
  let c16_i32 : BitVec 32 := 16#32
  let v154 : BitVec 32 := Scalar.muli v153 c16_i32
  let v155 : BitVec 32 := v154
  let v279 : Index := Scalar.indexCast v155
  ![1, v279.toNat]
def k0_cond4 (k0_t1 : Fin k0_t1_loop.trips) : BitVec 1 :=
  let c2_i32_87 : BitVec 32 := 2#32
  let c0_i32_46 : BitVec 32 := 0#32
  let c1_i32_47 : BitVec 32 := 1#32
  let arg16 : BitVec 32 := Scf.iv c0_i32_46 c1_i32_47 k0_t1
  let v115 : BitVec 32 := Scalar.muli c2_i32_87 arg16
  let c1_i32_88 : BitVec 32 := 1#32
  let v116 : BitVec 32 := Scalar.addi v115 c1_i32_88
  let c2_i32_115 : BitVec 32 := 2#32
  let v148 : BitVec 32 := Scalar.addi v116 c2_i32_115
  let c56_i32_116 : BitVec 32 := 56#32
  let v149 : BitVec 1 := Scalar.cmpi .slt v148 c56_i32_116
  let v150 : BitVec 32 := Scalar.extui v149
  let c0_i32_117 : BitVec 32 := 0#32
  let v151 : BitVec 1 := Scalar.cmpi .ne v150 c0_i32_117
  v151

def k0_off27 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_124 : BitVec 32 := 0#32
  let c2_i32_87 : BitVec 32 := 2#32
  let c0_i32_46 : BitVec 32 := 0#32
  let c1_i32_47 : BitVec 32 := 1#32
  let arg16 : BitVec 32 := Scf.iv c0_i32_46 c1_i32_47 k0_t1
  let v115 : BitVec 32 := Scalar.muli c2_i32_87 arg16
  let c1_i32_88 : BitVec 32 := 1#32
  let v116 : BitVec 32 := Scalar.addi v115 c1_i32_88
  let c2_i32_118 : BitVec 32 := 2#32
  let v152 : BitVec 32 := Scalar.addi v116 c2_i32_118
  let c896_i32_119 : BitVec 32 := 896#32
  let v153 : BitVec 32 := Scalar.muli v152 c896_i32_119
  ![v28.toNat, 0, v153.toNat]
def k0_off28 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c48384_i32 : BitVec 32 := 48384#32
  ![v28.toNat, v18.toNat, 48384]
def k0_off29 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c49280_i32 : BitVec 32 := 49280#32
  ![v28.toNat, v18.toNat, 49280]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8x224x224 : Shape := ⟨4, ![8, 8, 224, 224]⟩
abbrev S4x100000 : Shape := ⟨2, ![4, 100000]⟩
abbrev S4 : Shape := ⟨1, ![4]⟩
abbrev S_ : Shape := ⟨0, ![]⟩
abbrev S8x8x224x224x1 : Shape := ⟨5, ![8, 8, 224, 224, 1]⟩
abbrev S1 : Shape := ⟨1, ![1]⟩
abbrev S1x1x1x1x1 : Shape := ⟨5, ![1, 1, 1, 1, 1]⟩
abbrev S4x8x8x224x224 : Shape := ⟨5, ![4, 8, 8, 224, 224]⟩
abbrev S8x224x224 : Shape := ⟨3, ![8, 224, 224]⟩
abbrev S8x1x224x224 : Shape := ⟨4, ![8, 1, 224, 224]⟩
abbrev S1x8x8x224x224 : Shape := ⟨5, ![1, 8, 8, 224, 224]⟩
abbrev S4x8x224x224 : Shape := ⟨4, ![4, 8, 224, 224]⟩
abbrev S8x4x224x224 : Shape := ⟨4, ![8, 4, 224, 224]⟩
abbrev S1x4x1x1 : Shape := ⟨4, ![1, 4, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x8x224x224, .i32⟩
  | .hbm, ⟨1, _⟩ => ⟨S8x8x224x224, .f32⟩
  | .hbm, ⟨2, _⟩ => ⟨S4x100000, .f32⟩
  | .hbm, ⟨3, _⟩ => ⟨S4, .f32⟩
  | .hbm, ⟨4, _⟩ => ⟨S_, .i32⟩
  | .hbm, ⟨5, _⟩ => ⟨S8x8x224x224, .i32⟩
  | .hbm, ⟨6, _⟩ => ⟨S8x8x224x224, .i1⟩
  | .hbm, ⟨7, _⟩ => ⟨S_, .i32⟩
  | .hbm, ⟨8, _⟩ => ⟨S_, .i32⟩
  | .hbm, ⟨9, _⟩ => ⟨S8x8x224x224, .i32⟩
  | .hbm, ⟨10, _⟩ => ⟨S8x8x224x224, .i32⟩
  | .hbm, ⟨11, _⟩ => ⟨S_, .i32⟩
  | .hbm, ⟨12, _⟩ => ⟨S8x8x224x224, .i32⟩
  | .hbm, ⟨13, _⟩ => ⟨S8x8x224x224, .i1⟩
  | .hbm, ⟨14, _⟩ => ⟨S_, .i32⟩
  | .hbm, ⟨15, _⟩ => ⟨S8x8x224x224, .i32⟩
  | .hbm, ⟨16, _⟩ => ⟨S8x8x224x224, .i32⟩
  | .hbm, ⟨17, _⟩ => ⟨S8x8x224x224, .i32⟩
  | .hbm, ⟨18, _⟩ => ⟨S8x8x224x224x1, .i32⟩
  | .hbm, ⟨19, _⟩ => ⟨S1, .i32⟩
  | .hbm, ⟨20, _⟩ => ⟨S_, .i32⟩
  | .hbm, ⟨21, _⟩ => ⟨S8x8x224x224x1, .i32⟩
  | .hbm, ⟨22, _⟩ => ⟨S8x8x224x224x1, .i1⟩
  | .hbm, ⟨23, _⟩ => ⟨S1x1x1x1x1, .i32⟩
  | .hbm, ⟨24, _⟩ => ⟨S8x8x224x224x1, .i32⟩
  | .hbm, ⟨25, _⟩ => ⟨S8x8x224x224x1, .i1⟩
  | .hbm, ⟨26, _⟩ => ⟨S8x8x224x224x1, .i1⟩
  | .hbm, ⟨27, _⟩ => ⟨S_, .i1⟩
  | .hbm, ⟨28, _⟩ => ⟨S8x8x224x224, .i1⟩
  | .hbm, ⟨29, _⟩ => ⟨S4x8x8x224x224, .f32⟩
  | .hbm, ⟨30, _⟩ => ⟨S4x8x8x224x224, .i1⟩
  | .hbm, ⟨31, _⟩ => ⟨S_, .f32⟩
  | .hbm, ⟨32, _⟩ => ⟨S4x8x8x224x224, .f32⟩
  | .hbm, ⟨33, _⟩ => ⟨S4x8x8x224x224, .f32⟩
  | .hbm, ⟨34, _⟩ => ⟨S8x8x224x224, .f32⟩
  | .hbm, ⟨35, _⟩ => ⟨S8x8x224x224, .f32⟩
  | .hbm, ⟨36, _⟩ => ⟨S_, .f32⟩
  | .hbm, ⟨37, _⟩ => ⟨S8x8x224x224, .f32⟩
  | .hbm, ⟨38, _⟩ => ⟨S8x8x224x224, .f32⟩
  | .hbm, ⟨39, _⟩ => ⟨S_, .f32⟩
  | .hbm, ⟨40, _⟩ => ⟨S8x224x224, .f32⟩
  | .hbm, ⟨41, _⟩ => ⟨S8x1x224x224, .f32⟩
  | .hbm, ⟨42, _⟩ => ⟨S8x224x224, .f32⟩
  | .hbm, ⟨43, _⟩ => ⟨S8x224x224, .f32⟩
  | .hbm, ⟨44, _⟩ => ⟨S8x1x224x224, .f32⟩
  | .hbm, ⟨45, _⟩ => ⟨S8x224x224, .f32⟩
  | .hbm, ⟨46, _⟩ => ⟨S8x224x224, .f32⟩
  | .hbm, ⟨47, _⟩ => ⟨S8x1x224x224, .f32⟩
  | .hbm, ⟨48, _⟩ => ⟨S8x224x224, .f32⟩
  | .hbm, ⟨49, _⟩ => ⟨S8x224x224, .f32⟩
  | .hbm, ⟨50, _⟩ => ⟨S8x1x224x224, .f32⟩
  | .hbm, ⟨51, _⟩ => ⟨S8x224x224, .f32⟩
  | .hbm, ⟨52, _⟩ => ⟨S8x224x224, .f32⟩
  | .hbm, ⟨53, _⟩ => ⟨S8x1x224x224, .f32⟩
  | .hbm, ⟨54, _⟩ => ⟨S8x224x224, .f32⟩
  | .hbm, ⟨55, _⟩ => ⟨S8x224x224, .f32⟩
  | .hbm, ⟨56, _⟩ => ⟨S8x1x224x224, .f32⟩
  | .hbm, ⟨57, _⟩ => ⟨S8x224x224, .f32⟩
  | .hbm, ⟨58, _⟩ => ⟨S8x224x224, .f32⟩
  | .hbm, ⟨59, _⟩ => ⟨S8x1x224x224, .f32⟩
  | .hbm, ⟨60, _⟩ => ⟨S8x224x224, .f32⟩
  | .hbm, ⟨61, _⟩ => ⟨S8x224x224, .f32⟩
  | .hbm, ⟨62, _⟩ => ⟨S8x1x224x224, .f32⟩
  | .hbm, ⟨63, _⟩ => ⟨S8x1x224x224, .f32⟩
  | .hbm, ⟨64, _⟩ => ⟨S8x1x224x224, .f32⟩
  | .hbm, ⟨65, _⟩ => ⟨S8x1x224x224, .f32⟩
  | .hbm, ⟨66, _⟩ => ⟨S8x1x224x224, .f32⟩
  | .hbm, ⟨67, _⟩ => ⟨S8x1x224x224, .f32⟩
  | .hbm, ⟨68, _⟩ => ⟨S8x1x224x224, .f32⟩
  | .hbm, ⟨69, _⟩ => ⟨S8x1x224x224, .f32⟩
  | .hbm, ⟨70, _⟩ => ⟨S8x8x224x224, .f32⟩
  | .hbm, ⟨71, _⟩ => ⟨S8x8x224x224, .f32⟩
  | .hbm, ⟨72, _⟩ => ⟨S1x8x8x224x224, .f32⟩
  | .hbm, ⟨73, _⟩ => ⟨S4x8x8x224x224, .f32⟩
  | .hbm, ⟨74, _⟩ => ⟨S4x8x8x224x224, .f32⟩
  | .hbm, ⟨75, _⟩ => ⟨S_, .f32⟩
  | .hbm, ⟨76, _⟩ => ⟨S4x8x224x224, .f32⟩
  | .hbm, ⟨77, _⟩ => ⟨S8x4x224x224, .f32⟩
  | .hbm, ⟨78, _⟩ => ⟨S8x1x224x224, .i32⟩
  | .hbm, ⟨79, _⟩ => ⟨S8x224x224, .i32⟩
  | .hbm, ⟨80, _⟩ => ⟨S_, .i32⟩
  | .hbm, ⟨81, _⟩ => ⟨S8x224x224, .i32⟩
  | .hbm, ⟨82, _⟩ => ⟨S8x224x224, .i1⟩
  | .hbm, ⟨83, _⟩ => ⟨S8x1x224x224, .i1⟩
  | .hbm, ⟨84, _⟩ => ⟨S1x4x1x1, .f32⟩
  | .hbm, ⟨85, _⟩ => ⟨S8x4x224x224, .i1⟩
  | .hbm, ⟨86, _⟩ => ⟨S8x4x224x224, .f32⟩
  | .hbm, ⟨87, _⟩ => ⟨S8x4x224x224, .f32⟩
  | .hbm, ⟨88, _⟩ => ⟨S8x224x224, .i1⟩
  | _, _ => ⟨S8x8x224x224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_3 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call2_v0 : Ref sig .tc := ⟨.hbm, 85, rfl⟩
abbrev main_call2_v1 : Ref sig .tc := ⟨.hbm, 86, rfl⟩
abbrev main_v51 : Ref sig .tc := ⟨.hbm, 87, rfl⟩
abbrev main_v52 : Ref sig .tc := ⟨.hbm, 88, rfl⟩

abbrev nD : Nat := 1
abbrev τ : Topo := Topo.v7x

variable {F : FTy → Type} [FloatOps F]
-- ==== Proof.Reference.lean ====
/- The reference's results, read at an index: the sum of the fragments' features, each weighed by its own opacity and
   the transparency of the fragments before it. -/
module

public import proofs.«01_k».proof.Proof.Gen.ReferenceIdeal.Run
public import Idealize.ShloMosaic.Lib.Pointwise.Reduce
public import Idealize.ShloMosaic.Lib.Pointwise.SelectCore
public import Idealize.ShloMosaic.Lib.Pipeline.Value
public import Idealize.ShloMosaic.Lib.ReduceAll

@[expose] public section

noncomputable section

namespace Cert.Proof.Compositing

open Cert.ReferenceIdeal Cert.ReferenceIdeal.Gen
open Idealize.ShloMosaic Idealize.SL.Sem

section Terms

variable {F : FTy → Type} [FloatOps F]
variable (fr : IVec S8x8x224x224 32) (al : FVec F S8x8x224x224 .f32) (pts : FVec F S4x100000 .f32)

/-! ## The reference's stages -/

abbrev zeros : IVec S8x8x224x224 32 := broadcastInDim S8x8x224x224 ![] bcast_S_S8x8x224x224 (constantI S_ 32 0#32)
def valid : IVec S8x8x224x224 1 := cmpi .sge fr zeros
def picked : IVec S8x8x224x224 32 := select (valid fr) fr (broadcastInDim S8x8x224x224 ![] bcast_S_S8x8x224x224 (id (constantI S_ 32 0#32)))
def wrapped : IVec S8x8x224x224 32 :=
  select (cmpi .slt (picked fr) zeros) (addi (picked fr) (broadcastInDim S8x8x224x224 ![] bcast_S_S8x8x224x224 (constantI S_ 32 100000#32))) (picked fr)
def numbers : IVec S8x8x224x224x1 32 := broadcastInDim S8x8x224x224x1 ![0, 1, 2, 3] bcast_S8x8x224x224_S8x8x224x224x1_0_1_2_3 (wrapped fr)
def within : IVec S8x8x224x224 1 :=
  Host.reduce IntOp.andi
    (andi (cmpi .sge (numbers fr) (broadcastInDim S8x8x224x224x1 ![] bcast_S_S8x8x224x224x1 (constantI S_ 32 0#32)))
      (cmpi .sle (numbers fr) (broadcastInDim S8x8x224x224x1 ![0, 1, 2, 3, 4] bcast_S1x1x1x1x1_S8x8x224x224x1_0_1_2_3_4
        (broadcastInDim S1x1x1x1x1 ![4] bcast_S1_S1x1x1x1x1_4 (constantI S1 32 99999#32)))))
    (constantI S_ 1 1#1) reducesTo_S8x8x224x224x1_S8x8x224x224_d4 h_S_
def features : FVec F S4x8x8x224x224 .f32 :=
  select (broadcastInDim S4x8x8x224x224 ![1, 2, 3, 4] bcast_S8x8x224x224_S4x8x8x224x224_1_2_3_4 (within fr))
    (Host.gather gather_S4x100000_S8x8x224x224x1_S4x8x8x224x224_0_1_n_n_1_4_41 pts (numbers fr))
    (broadcastInDim S4x8x8x224x224 ![] bcast_S_S4x8x8x224x224 (constant S_ .f32 0x7FC00000#32))
def opacity : FVec F S8x8x224x224 .f32 := mulf al (uitofp .f32 (valid fr))
def through : FVec F S8x8x224x224 .f32 :=
  subf (broadcastInDim S8x8x224x224 ![] bcast_S_S8x8x224x224 (constant S_ .f32 0x3F800000#32)) (opacity fr al)

theorem layer_slices (k : ℕ) : S8x8x224x224.Slices ![0, k % 8, 0, 0] S8x1x224x224 := by
  refine ⟨rfl, fun a => ?_⟩
  have hk : k % 8 < 8 := Nat.mod_lt _ (by decide)
  fin_cases a
  · show 0 + 8 ≤ 8; omega
  · show k % 8 + 1 ≤ 8; omega
  · show 0 + 224 ≤ 224; omega
  · show 0 + 224 ≤ 224; omega

/-- Fragment `k`'s transparency. -/
def layer (k : ℕ) : FVec F S8x224x224 .f32 :=
  shapeCast S8x224x224 (extractStridedSlice S8x1x224x224 ![0, k % 8, 0, 0] (through fr al) (layer_slices k)) shapeCasts_S8x1x224x224_S8x224x224
/-- The transparency of the fragments before `k`. -/
def clear : ℕ → FVec F S8x224x224 .f32
  | 0 => broadcastInDim S8x224x224 ![] bcast_S_S8x224x224 (constant S_ .f32 0x3F800000#32)
  | k + 1 => mulf (clear k) (layer fr al k)
abbrev sheet (k : ℕ) : FVec F S8x1x224x224 .f32 := broadcastInDim S8x1x224x224 ![0, 2, 3] bcast_S8x224x224_S8x1x224x224_0_2_3 (clear fr al k)
def stacked : FVec F S8x8x224x224 .f32 :=
  Cert.ReferenceIdeal.Value.fn_main_v38 (F := F) (sheet fr al 0) (sheet fr al 1) (sheet fr al 2) (sheet fr al 3) (sheet fr al 4) (sheet fr al 5) (sheet fr al 6) (sheet fr al 7)
def weights : FVec F S8x8x224x224 .f32 := mulf (opacity fr al) (stacked fr al)
def summed : FVec F S4x8x224x224 .f32 :=
  Host.reduceAdd
    (mulf (broadcastInDim S4x8x8x224x224 ![0, 1, 2, 3, 4] bcast_S1x8x8x224x224_S4x8x8x224x224_0_1_2_3_4
        (broadcastInDim S1x8x8x224x224 ![1, 2, 3, 4] bcast_S8x8x224x224_S1x8x8x224x224_1_2_3_4 (weights fr al)))
      (features fr pts))
    (constant S_ .f32 0x00000000#32) reducesTo_S4x8x8x224x224_S4x8x224x224_d2 h_S_
def behind : IVec S8x224x224 1 :=
  cmpi .slt (shapeCast S8x224x224 (extractStridedSlice S8x1x224x224 ![0, 0, 0, 0] fr slices_S8x8x224x224_S8x1x224x224_0_0_0_0) shapeCasts_S8x1x224x224_S8x224x224)
    (broadcastInDim S8x224x224 ![] bcast_S_S8x224x224 (constantI S_ 32 0#32))
def composed : FVec F S8x4x224x224 .f32 :=
  select (broadcastInDim S8x4x224x224 ![0, 1, 2, 3] bcast_S8x1x224x224_S8x4x224x224_0_1_2_3
      (broadcastInDim S8x1x224x224 ![0, 2, 3] bcast_S8x224x224_S8x1x224x224_0_2_3 (behind fr)))
    (broadcastInDim S8x4x224x224 ![0, 1, 2, 3] bcast_S1x4x1x1_S8x4x224x224_0_1_2_3 (broadcastInDim S1x4x1x1 ![1] bcast_S4_S1x4x1x1_1 (constant S4 .f32 0x00000000#32)))
    (transpose S8x4x224x224 [1, 0, 2, 3] (summed fr al pts) transposes_S4x8x224x224_S8x4x224x224_1_0_2_3)

set_option maxRecDepth 8192 in
/-- The run's first result is the last stage. -/
theorem res_eq (m : (ℓ : Loc nD τ sig) → Buf (Elt F) ℓ) (c : Dev nD) :
    Cert.ReferenceIdeal.Value.res_out0 m c = composed (m ((c.tc : Thread nD τ).loc main_arg0)) (m ((c.tc : Thread nD τ).loc main_arg1)) (m ((c.tc : Thread nD τ).loc main_arg2)) := rfl

/-! ## The index tests -/

theorem sge_zero {w : BitVec 32} (h : w.toNat < 100000) : IntOp.cmpi .sge w 0#32 = 1#1 := by
  have : (0#32).sle w = true := by
    rw [BitVec.sle_eq_decide, decide_eq_true_iff, BitVec.toInt_eq_toNat_cond, BitVec.toInt_eq_toNat_cond, if_pos (by simp), if_pos (by omega)]
    simp
  simp [IntOp.cmpi, this]
theorem slt_zero {w : BitVec 32} (h : w.toNat < 100000) : IntOp.cmpi .slt w 0#32 = 0#1 := by
  have : w.slt 0#32 = false := by
    rw [BitVec.slt_eq_decide, decide_eq_false_iff_not, BitVec.toInt_eq_toNat_cond, BitVec.toInt_eq_toNat_cond, if_pos (by omega), if_pos (by simp)]
    simp
  simp [IntOp.cmpi, this]
theorem sle_last {w : BitVec 32} (h : w.toNat < 100000) : IntOp.cmpi .sle w 99999#32 = 1#1 := by
  have : w.sle 99999#32 = true := by
    rw [BitVec.sle_eq_decide, decide_eq_true_iff, BitVec.toInt_eq_toNat_cond, BitVec.toInt_eq_toNat_cond, if_pos (by omega), if_pos (by simp)]
    simp; omega
  simp [IntOp.cmpi, this]

theorem select_one {s : Shape} {α : Type} {p : IVec s 1} {i : s.Idx} (h : p i = 1#1) (a b : s.Idx → α) : select p a b i = a i := by
  show Scalar.select (p i) (a i) (b i) = a i
  rw [h]; rfl
theorem select_none {s : Shape} {α : Type} {p : IVec s 1} {i : s.Idx} (h : p i = 0#1) (a b : s.Idx → α) : select p a b i = b i := by
  show Scalar.select (p i) (a i) (b i) = b i
  rw [h]; rfl
theorem broadcast_const {s t : Shape} {α : Type} {dims : Fin s.rank → Fin t.rank} (h : s.BroadcastsInDim t dims) {x : s.Idx → α} {v : α}
    (hx : ∀ i, x i = v) (j : t.Idx) : broadcastInDim t dims h x j = v := hx _

variable {fr} (hr : ∀ x, (fr x).toNat < 100000)
include hr

theorem valid_eq (x : S8x8x224x224.Idx) : valid fr x = 1#1 := sge_zero (hr x)
theorem picked_eq : picked fr = fr := funext fun x => by
  show Scalar.select (valid fr x) (fr x) _ = fr x
  rw [valid_eq hr]; rfl
theorem wrapped_eq : wrapped fr = fr := funext fun x => by
  unfold wrapped
  rw [picked_eq hr]
  show Scalar.select (IntOp.cmpi .slt (fr x) 0#32) _ (fr x) = fr x
  rw [slt_zero (hr x)]; rfl
theorem numbers_apply (z : S8x8x224x224x1.Idx) : (numbers fr z).toNat < 100000 := by
  unfold numbers
  rw [wrapped_eq hr]
  exact hr _
theorem within_eq (x : S8x8x224x224.Idx) : within fr x = 1#1 := by
  refine Host.reduce_andi_one _ _ _ _ _ rfl fun z => ?_
  show IntOp.andi (IntOp.cmpi .sge (numbers fr z) 0#32) (IntOp.cmpi .sle (numbers fr z) 99999#32) = 1#1
  rw [sge_zero (numbers_apply hr z), sle_last (numbers_apply hr z)]; rfl
theorem behind_eq (x : S8x224x224.Idx) : behind fr x = 0#1 := slt_zero (hr _)

/-- A fragment's features are its point's column of the table. -/
theorem features_apply (c : Fin 4) (n k : Fin 8) (y x : Fin 224) :
    features fr pts (ix5 c n k y x) = pts (ix2 c ⟨(fr (ix4 n k y x)).toNat, hr _⟩) := by
  unfold features
  rw [select_one (broadcast_const _ (within_eq hr) _)]
  have hn : ∀ z : S8x8x224x224x1.Idx, z = ix5 n k y x 0 → numbers fr z = fr (ix4 n k y x) := by
    rintro z rfl
    unfold numbers
    rw [wrapped_eq hr]
    refine broadcastInDim_apply _ _ _ _ _ fun a => ?_
    fin_cases a <;> rfl
  refine congrArg pts (funext fun a => Fin.ext ?_)
  fin_cases a
  · show 0 + 0 + c.val = c.val; omega
  · show min (numbers fr _).toInt.toNat (100000 - 1) + 0 + 0 = (fr (ix4 n k y x)).toNat
    rw [hn]
    · have := hr (ix4 n k y x)
      rw [BitVec.toInt_eq_toNat_cond, if_pos (by omega)]
      omega
    · funext b
      fin_cases b <;> rfl

end Terms

section Ideally

variable (fr : IVec S8x8x224x224 32) (al : FVec Ideal S8x8x224x224 .f32) (pts : FVec Ideal S4x100000 .f32)

theorem mulf_at {s : Shape} (a b : FVec Ideal s .f32) (i : s.Idx) : mulf a b i = a i * b i := rfl
theorem one_bits : Ideal.ofBits .f32 0x3F800000#32 = 1 := by
  simp [Ideal.ofBits, Ideal.ieee, -EReal.coe_mul]; norm_num
theorem zero_bits : Ideal.ofBits .f32 0x00000000#32 = 0 := by simp [Ideal.ofBits, Ideal.ieee]

/-- The transparency of the fragments before `k`, from the opacities `a`. -/
def rest (a : ℕ → EReal) : ℕ → EReal
  | 0 => 1
  | k + 1 => rest a k * (1 - a k)

variable {fr} (hr : ∀ x, (fr x).toNat < 100000)
include hr

theorem opacity_eq : opacity fr al = al := funext fun x => by
  show al x * (((valid fr x).toNat : ℝ) : EReal) = al x
  rw [valid_eq hr]
  simp
theorem through_apply (x : S8x8x224x224.Idx) : through fr al x = 1 - al x := by
  unfold through
  rw [opacity_eq al hr]
  show Ideal.ofBits .f32 0x3F800000#32 - al x = 1 - al x
  rw [one_bits]

/-- The opacities along one pixel. -/
def along (n : Fin 8) (y x : Fin 224) (k : ℕ) : EReal := al (ix4 n ⟨k % 8, Nat.mod_lt _ (by decide)⟩ y x)

theorem layer_apply (k : ℕ) (n : Fin 8) (y x : Fin 224) : layer fr al k (ix3 n y x) = 1 - along al n y x k := by
  unfold layer
  rw [shapeCast_apply _ _ _ (ix4 n 0 y x) (by
    rw [Shape.rowMajor_val_four, Shape.rowMajor_val_three]
    show ((n.val * 1 + 0) * 224 + y.val) * 224 + x.val = (n.val * 224 + y.val) * 224 + x.val
    omega)]
  show through fr al _ = _
  rw [through_apply al hr]
  refine congrArg (fun i => 1 - al i) (funext fun a => Fin.ext ?_)
  fin_cases a
  · show 0 + n.val = n.val; omega
  · rfl
  · show 0 + y.val = y.val; omega
  · show 0 + x.val = x.val; omega
theorem clear_apply (k : ℕ) (n : Fin 8) (y x : Fin 224) : clear fr al k (ix3 n y x) = rest (along al n y x) k := by
  induction k with
  | zero => exact one_bits
  | succ k ih =>
    show clear fr al k (ix3 n y x) * layer fr al k (ix3 n y x) = _
    rw [ih, layer_apply al hr]
    rfl
theorem stacked_apply (n k : Fin 8) (y x : Fin 224) : stacked fr al (ix4 n k y x) = rest (along al n y x) k := by
  rw [← clear_apply al hr]
  refine (concatenate_ofFn_unit_apply (t := S8x8x224x224) (s₁ := S8x1x224x224) 1 (fun i : Fin 8 => sheet fr al i)
    concatenates_S8x1x224x224_S8x1x224x224_S8x1x224x224_S8x1x224x224_S8x1x224x224_S8x1x224x224_S8x1x224x224_S8x1x224x224_S8x8x224x224_d1 rfl rfl (ix4 n k y x) k rfl (ix4 n 0 y x) ?_).trans ?_
  · intro b hb
    fin_cases b
    · rfl
    · exact absurd rfl hb
    · rfl
    · rfl
  · refine broadcastInDim_apply _ _ _ _ _ fun a => ?_
    fin_cases a <;> rfl

theorem spread_apply (c : Fin 4) (n k : Fin 8) (y x : Fin 224) :
    broadcastInDim S4x8x8x224x224 ![0, 1, 2, 3, 4] bcast_S1x8x8x224x224_S4x8x8x224x224_0_1_2_3_4
        (broadcastInDim S1x8x8x224x224 ![1, 2, 3, 4] bcast_S8x8x224x224_S1x8x8x224x224_1_2_3_4 (weights fr al)) (ix5 c n k y x)
      = along al n y x k * rest (along al n y x) k := by
  rw [broadcastInDim_apply _ _ _ _ (ix5 0 n k y x) (fun a => by fin_cases a <;> rfl),
    broadcastInDim_apply _ _ _ _ (ix4 n k y x) (fun a => by fin_cases a <;> rfl)]
  unfold weights
  rw [mulf_at, opacity_eq al hr, stacked_apply al hr]
  have hk : along al n y x k = al (ix4 n k y x) := congrArg (fun i => al (ix4 n i y x)) (Fin.ext (Nat.mod_eq_of_lt k.isLt))
  rw [hk]
theorem summed_apply (c : Fin 4) (n : Fin 8) (y x : Fin 224) :
    summed fr al pts (ix4 c n y x)
      = ∑ k : Fin 8, along al n y x k * rest (along al n y x) k * pts (ix2 c ⟨(fr (ix4 n k y x)).toNat, hr _⟩) := by
  have hz : (constant (F := Ideal) S_ .f32 0x00000000#32) (Shape.Idx.first h_S_) = 0 := zero_bits
  unfold summed
  rw [Host.reduceAdd_apply, Ideal.hostReduceAdd_def, Ideal.hostReduceAdd_r5_a2, hz, zero_add]
  refine Finset.sum_congr rfl fun k _ => ?_
  rw [mulf_at, features_apply pts hr]
  exact congrArg (· * _) (spread_apply al hr c n k y x)

/-- The reference's image at a pixel. -/
theorem composed_apply (n : Fin 8) (c : Fin 4) (y x : Fin 224) :
    composed fr al pts (ix4 n c y x)
      = ∑ k : Fin 8, along al n y x k * rest (along al n y x) k * pts (ix2 c ⟨(fr (ix4 n k y x)).toNat, hr _⟩) := by
  rw [← summed_apply al pts hr]
  unfold composed
  rw [select_none (broadcast_const _ (broadcast_const _ (behind_eq hr)) _)]
  refine transpose_apply _ _ _ _ (ix4 c n y x) fun b => ?_
  fin_cases b <;> rfl

end Ideally

end Cert.Proof.Compositing

end
-- ==== Proof.Setup.lean ====
/- The vocabulary the other modules share: the program as the launch rule sees it, the resource algebra, the
   kernel's memory references, and the closed forms of the offsets and conditions its body computes from the tile's
   coordinates and the trip number. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Render

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program as the launch rule sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, and the counters of the local copies. -/
abbrev UH : Type := URounds (GSem nD τ sig) ℕ
abbrev UU : Type := UH × Counters

abbrev EH : Emb UH (MT nD τ sig (HIx 1) (Elt F) ℕ UU ℕ) := embL

/-! ## The kernel's memory references, as the body table passes them -/

abbrev aFrag : Memref sig .scVector .hbm S8x8x50176 .i32 := Memref.whole main_v0_scv
abbrev aAlpha : Memref sig .scVector .hbm S8x8x50176 .f32 := Memref.whole main_v1_scv
abbrev aTab : Memref sig .scVector .hbm S4x100000 .f32 := Memref.whole main_arg2_scv
abbrev aOut : Memref sig .scVector .hbm S8x4x50176 .f32 := Memref.whole main_v2_scv
abbrev bTab : Memref sig .scVector .vmem S100000 .f32 := Memref.whole cc0_scratch0
abbrev bFrag : Memref sig .scVector .vmem S2x8x896 .i32 := Memref.whole cc0_scratch1
abbrev bAlpha : Memref sig .scVector .vmem S2x8x896 .f32 := Memref.whole cc0_scratch2
abbrev bOut : Memref sig .scVector .vmem S2x896 .f32 := Memref.whole cc0_scratch3

/-! ## Tiles: the image and the channel each one renders -/

/-- The coordinates the body table gives SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Tile `(c, s)` is number `2 s + c`; it renders image `number mod 8`, channel `number / 8`. -/
def img (i : grid0.Coords) : ℕ := (i 1).val % 4 * 2 + (i 0).val
def chan (i : grid0.Coords) : ℕ := (i 1).val / 4

theorem img_lt (i : grid0.Coords) : img i < 8 := by
  have h0 : (i 0).val < 2 := (i 0).isLt
  unfold img; omega
theorem chan_lt (i : grid0.Coords) : chan i < 4 := by
  have h1 : (i 1).val < 16 := (i 1).isLt
  unfold chan; omega

/-! ## The offsets of the kernel's copies -/

theorem off1_eq : ∀ i : grid0.Coords, k0_off1 i = ![chan i, 0] := by decide +kernel
theorem off2_eq : ∀ i : grid0.Coords, k0_off2 i = ![img i, 0, 0] := by decide +kernel
theorem off3_eq : ∀ i : grid0.Coords, k0_off3 i = ![img i, 0, 896] := by decide +kernel
theorem off4_eq0 : ∀ (i : grid0.Coords) (t : Fin k0_t1_loop.trips), k0_off4 i t 0#32 = ![img i, 0, 896 * (2 * t.val)] := by decide +kernel
theorem off4_eq1 : ∀ (i : grid0.Coords) (t : Fin k0_t1_loop.trips), k0_off4 i t 1#32 = ![img i, 0, 896 * (2 * t.val + 1)] := by decide +kernel
theorem off5_eq : ∀ (i : grid0.Coords) (t : Fin k0_t1_loop.trips), k0_cond1 t = 1#1 → k0_off5 i t = ![img i, chan i, 896 * (2 * t.val - 2)] := by decide +kernel
theorem off15_eq0 : ∀ (i : grid0.Coords) (t : Fin k0_t1_loop.trips), k0_off15 i t 0#32 = ![img i, chan i, 896 * (2 * t.val)] := by decide +kernel
theorem off15_eq1 : ∀ (i : grid0.Coords) (t : Fin k0_t1_loop.trips), k0_off15 i t 1#32 = ![img i, chan i, 896 * (2 * t.val + 1)] := by decide +kernel
theorem off16_eq : ∀ (i : grid0.Coords) (t : Fin k0_t1_loop.trips), k0_cond2 t = 1#1 → k0_off16 i t = ![img i, 0, 896 * (2 * t.val + 2)] := by decide +kernel
theorem off17_eq : ∀ (i : grid0.Coords) (t : Fin k0_t1_loop.trips), k0_cond3 t = 1#1 → k0_off17 i t = ![img i, chan i, 896 * (2 * t.val - 1)] := by decide +kernel
theorem off27_eq : ∀ (i : grid0.Coords) (t : Fin k0_t1_loop.trips), k0_cond4 t = 1#1 → k0_off27 i t = ![img i, 0, 896 * (2 * t.val + 3)] := by decide +kernel
theorem off28_eq : ∀ i : grid0.Coords, k0_off28 i = ![img i, chan i, 896 * 54] := by decide +kernel
theorem off29_eq : ∀ i : grid0.Coords, k0_off29 i = ![img i, chan i, 896 * 55] := by decide +kernel

/-! ## The conditions of the outer loop's body -/

theorem trips1 : k0_t1_loop.trips = 28 := by decide +kernel
theorem trips2 : k0_t2_loop.trips = 56 := by decide +kernel
theorem trips3 : k0_t3_loop.trips = 56 := by decide +kernel
theorem cond1_iff : ∀ t : Fin k0_t1_loop.trips, k0_cond1 t = 1#1 ↔ 0 < t.val := by decide +kernel
theorem cond2_iff : ∀ t : Fin k0_t1_loop.trips, k0_cond2 t = 1#1 ↔ t.val < 27 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val < 27 := by decide +kernel

end Cert.Proof.Render

end
-- ==== Proof.Value.lean ====
/- What the kernel computes: the value of one pixel, as a recursion over the eight fragments in the kernel's order of
   operations, and the reading of the buffers it is made of. -/
module

public import proofs.«01_k».proof.Proof.Setup

@[expose] public section

noncomputable section

namespace Cert.Proof.Render

open Cert.KernelIdeal Cert.KernelIdeal.Gen
open Idealize.ShloMosaic

variable {F : FTy → Type} [FloatOps F]

/-! ## Indices by natural coordinates -/

/-- The index of a shape with the coordinates `v`, each reduced into its axis. -/
def ixN (s : Shape) (h : ∀ a, 0 < s.size a) (v : Fin s.rank → ℕ) : s.Idx := fun a => ⟨v a % s.size a, Nat.mod_lt _ (h a)⟩

theorem ixN_eq {s : Shape} {h : ∀ a, 0 < s.size a} {v : Fin s.rank → ℕ} (x : s.Idx) (hv : ∀ a, v a = (x a).val) : ixN s h v = x :=
  funext fun a => Fin.ext (by show v a % s.size a = _; rw [hv a]; exact Nat.mod_eq_of_lt (x a).isLt)

abbrev ixBuf (b k p : ℕ) : S2x8x896.Idx := ixN S2x8x896 (by decide) ![b, k, p]
abbrev ixRow (b p : ℕ) : S2x896.Idx := ixN S2x896 (by decide) ![b, p]
abbrev ixTab (w : ℕ) : S100000.Idx := ixN S100000 (by decide) ![w]
abbrev ixPts (c w : ℕ) : S4x100000.Idx := ixN S4x100000 (by decide) ![c, w]
abbrev ixIn (n k p : ℕ) : S8x8x50176.Idx := ixN S8x8x50176 (by decide) ![n, k, p]

/-! ## The value of a pixel -/

abbrev zeroF : F .f32 := Scalar.ofBits .f32 0x00000000#32
abbrev oneF : F .f32 := Scalar.ofBits .f32 0x3F800000#32

/-- After `k` fragments, of weights `a` and features `f`: the sum so far, and the transparency left. -/
def blend (a f : ℕ → F .f32) : ℕ → F .f32 × F .f32
  | 0 => (zeroF, oneF)
  | k + 1 => (FloatOps.addf (blend a f k).1 (FloatOps.mulf (FloatOps.mulf (a k) (blend a f k).2) (f k)),
      FloatOps.mulf (blend a f k).2 (FloatOps.subf oneF (a k)))

/-- The pixel: the sum over all eight fragments. -/
def pixel (a f : ℕ → F .f32) : F .f32 := (blend a f 8).1

theorem blend_congr {a a' f f' : ℕ → F .f32} {n : ℕ} (ha : ∀ k < n, a k = a' k) (hf : ∀ k < n, f k = f' k) : blend a f n = blend a' f' n := by
  induction n with
  | zero => rfl
  | succ n ih =>
    have e := ih (fun k h => ha k (by omega)) fun k h => hf k (by omega)
    simp only [blend, e, ha n (by omega), hf n (by omega)]

theorem pixel_congr {a a' f f' : ℕ → F .f32} (ha : ∀ k < 8, a k = a' k) (hf : ∀ k < 8, f k = f' k) : pixel a f = pixel a' f' := by
  unfold pixel; rw [blend_congr ha hf]

/-- Pixel `p` of buffer `b`, from a tile's buffers: the fragments' numbers, their weights, and the channel's table. -/
def bufPixel (fv : IVec S2x8x896 32) (av : FVec F S2x8x896 .f32) (tv : FVec F S100000 .f32) (b p : ℕ) : F .f32 :=
  pixel (fun k => av (ixBuf b k p)) fun k => tv (ixTab (fv (ixBuf b k p)).toNat)

/-- The kernel's result: image, channel and pixel `x`, from the flattened arguments. -/
def rendered (v0 : IVec S8x8x50176 32) (v1 : FVec F S8x8x50176 .f32) (pts : FVec F S4x100000 .f32) : FVec F S8x4x50176 .f32 := fun x =>
  pixel (fun k => v1 (ixIn (x 0).val k (x 2).val)) fun k => pts (ixPts (x 1).val (v0 (ixIn (x 0).val k (x 2).val)).toNat)

/-! ## Sixteen lanes -/

/-- The sixteen numbers (or weights) of fragment `k` at group `g` of buffer `b`, as a load leaves them. -/
def lanes {α : Type} (f : S2x8x896.Idx → α) (b k g : ℕ) : S1x1x16.Idx → α := fun x => f (ixBuf b k (16 * g + (x 2).val))

/-- The lanes, their unit axes dropped. -/
theorem lanes_cast {α : Type} (f : S2x8x896.Idx → α) (b k g : ℕ) (x : S16.Idx) :
    shapeCast S16 (lanes f b k g) shapeCasts_S1x1x16_S16 x = f (ixBuf b k (16 * g + (x 0).val)) := by
  have hx : (x 0).val < 16 := (x 0).isLt
  let y : S1x1x16.Idx := ixN S1x1x16 (by decide) ![0, 0, (x 0).val]
  have hy : (S1x1x16.rowMajor y).val = (S16.rowMajor x).val := by
    rw [Shape.rowMajor_val_three, Shape.rowMajor_val_one]
    show (0 % 1 * 1 + 0 % 1) * 16 + (x 0).val % 16 = (x 0).val
    omega
  rw [shapeCast_apply _ _ x y hy]
  show f (ixBuf b k (16 * g + (x 0).val % 16)) = _
  rw [Nat.mod_eq_of_lt hx]

/-- The gather's result: the table at the lanes' numbers. -/
def gathered (fv : IVec S2x8x896 32) (tv : FVec F S100000 .f32) (b k g : ℕ) : FVec F S16 .f32 :=
  fun x => tv (ixTab (fv (ixBuf b k (16 * g + (x 0).val))).toNat)

end Cert.Proof.Render

end
-- ==== Proof.Group.lean ====
/- One group of sixteen pixels: the body of the kernel's two inner loops, each run through once. -/
module

public import proofs.«01_k».proof.Proof.Value

@[expose] public section

noncomputable section

namespace Cert.Proof.Render

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The thread of the tile at coordinates `i` of device `d`. -/
abbrev VT (d : Dev nD) (i : grid0.Coords) : Thread nD τ := V d ((i 0).castLE hcore0) ((i 1).castLE hsub0)

/-- The elements of a double buffer's half `b`. -/
def half (b : ℕ) : Finset S2x8x896.Idx := Finset.univ.filter fun x => (x 0).val = b
def halfRow (b : ℕ) : Finset S2x896.Idx := Finset.univ.filter fun x => (x 0).val = b

variable (d : Dev nD) (i : grid0.Coords)

/-- A tile's fragment numbers in half `b`; its weights; its table; its pixels. -/
abbrev ownFrag (b : ℕ) (fv : IVec S2x8x896 32) : sProp 𝕄 := bFrag.view.loc (VT d i) ↦[half b]{fullShare} fv
abbrev ownAlpha (b : ℕ) (av : FVec F S2x8x896 .f32) : sProp 𝕄 := bAlpha.view.loc (VT d i) ↦[half b]{fullShare} av
abbrev ownTab (tv : FVec F S100000 .f32) : sProp 𝕄 := bTab.view.loc (VT d i) ↦{fullShare} tv
abbrev ownOut (b : ℕ) (ov : FVec F S2x896 .f32) : sProp 𝕄 := bOut.view.loc (VT d i) ↦[halfRow b]{fullShare} ov

theorem load_half {off : Fin 3 → ℕ} {inb : ∀ a, off a + S1x1x16.size a ≤ S2x8x896.size a} {b k g : ℕ} (hoff : off = ![b, k, 16 * g]) :
    (Rect.unit (s := S2x8x896) off S1x1x16.size inb).set ⊆ half b := by
  intro x hx
  have h := (Rect.mem_set_unit.mp hx) 0
  subst hoff
  refine Finset.mem_filter.mpr ⟨Finset.mem_univ _, ?_⟩
  have h1 : b ≤ (x 0).val := h.1
  have h2 : (x 0).val < b + 1 := h.2
  omega

/-- What a load of sixteen lanes reads. -/
theorem read_lanes {α : Type} {off : Fin 3 → ℕ} {inb : ∀ a, off a + S1x1x16.size a ≤ S2x8x896.size a} {b k g : ℕ} (hoff : off = ![b, k, 16 * g])
    (hb : b < 2) (hk : k < 8) (hg : g < 56) (f : S2x8x896.Idx → α) :
    (fun x : S1x1x16.Idx => f ((Rect.unit (s := S2x8x896) off S1x1x16.size inb).emb x)) = lanes f b k g := by
  subst hoff
  funext x
  have h0 : (x 0).val < 1 := (x 0).isLt
  have h1 : (x 1).val < 1 := (x 1).isLt
  have h2 : (x 2).val < 16 := (x 2).isLt
  refine congrArg f (ixN_eq _ fun a => ?_).symm
  rw [Rect.emb_apply]
  fin_cases a
  · show b = b + 1 * (x 0).val; omega
  · show k = k + 1 * (x 1).val; omega
  · show 16 * g + (x 2).val = 16 * g + 1 * (x 2).val; omega

/-- A gather from the tile's table at sixteen of its fragments' numbers. -/
theorem gather_lanes {b k g : ℕ} (fv : IVec S2x8x896 32) (tv : FVec F S100000 .f32)
    {h : ∀ a x, ((![shapeCast S16 (lanes fv b k g) shapeCasts_S1x1x16_S16] : Fin 1 → IVec S16 32) a x).toNat < S100000.size a} :
    loadIdx ((bTab.access (.whole S100000)).read (Elt F) tv) ![shapeCast S16 (lanes fv b k g) shapeCasts_S1x1x16_S16] h = gathered fv tv b k g := by
  funext x
  refine congrArg tv ((ixN_eq _ fun a => ?_).symm)
  fin_cases a
  show _ = 0 + 1 * ((![shapeCast S16 (lanes fv b k g) shapeCasts_S1x1x16_S16] : Fin 1 → IVec S16 32) 0 x).toNat
  rw [Nat.zero_add, Nat.one_mul]
  show _ = (shapeCast S16 (lanes fv b k g) shapeCasts_S1x1x16_S16 x).toNat
  rw [lanes_cast]; rfl

/-- One fragment of one group: the load of its numbers, their check, the load of its weights, and the gather of its features. -/
theorem wp_fetch {b k g : ℕ} {off : Fin 3 → ℕ} {inb : ∀ a, off a + S1x1x16.size a ≤ S2x8x896.size a} (hoff : off = ![b, k, 16 * g])
    (hb : b < 2) (hk : k < 8) (hg : g < 56)
    (fv : IVec S2x8x896 32) (av : FVec F S2x8x896 .f32) (tv : FVec F S100000 .f32) (hfv : ∀ x, (fv x).toNat < 100000)
    {chk : IVec S16 32 → Prop} (hchk : ∀ v, (∀ x, (v x).toNat < 100000) → chk v) {dec : ∀ v, Decidable (chk v)}
    (hidx : ∀ v, chk v → ∀ a x, ((![v] : Fin 1 → IVec S16 32) a x).toNat < S100000.size a)
    {l7 : bFrag.view.LoadsAt (Rect.unit (s := S2x8x896) off S1x1x16.size inb).toLoadRect}
    {l8 : bAlpha.view.LoadsAt (Rect.unit (s := S2x8x896) off S1x1x16.size inb).toLoadRect} {l6 : bTab.view.Loads}
    {kont : FVec F S1x1x16 .f32 → FVec F S16 .f32 → Prog (TpuEff nD τ sig (Elt F) Λ₀ (VT d i).2) Unit} {Q : Unit → sProp 𝕄} :
    iprop(ownFrag (F := F) d i b fv ∗ ownAlpha d i b av ∗ ownTab d i tv)
      ⊢ iprop(((ownFrag (F := F) d i b fv ∗ ownAlpha d i b av ∗ ownTab d i tv)
          -∗ wp frame (wpE (defs₀ (F := F)) 𝒱₀ (VT d i) none) Set.univ (kont (lanes av b k g) (gathered fv tv b k g)) Q)
        -∗ wp frame (wpE (defs₀ (F := F)) 𝒱₀ (VT d i) none) Set.univ
          (.op (.load bFrag (Rect.unit (s := S2x8x896) off S1x1x16.size inb).toLoadRect l7) fun (v : IVec S1x1x16 32) =>
            .op (.assume (chk (shapeCast S16 v shapeCasts_S1x1x16_S16)) (dec _)) fun h =>
              .op (.load bAlpha (Rect.unit (s := S2x8x896) off S1x1x16.size inb).toLoadRect l8) fun (a : FVec F S1x1x16 .f32) =>
                SparseCore.vectorLoadIdx bTab ![shapeCast S16 v shapeCasts_S1x1x16_S16] (hidx _ h.down) l6 >>= fun w => kont a w) Q) := by
  iintro ⟨Hf, Ha, Ht⟩ Hk
  iapply (wp_load 𝒱₀ (VT d i) none Set.univ (m := bFrag) (S := half b) (by
    rw [show (bFrag.view.setOn (Rect.unit (s := S2x8x896) off S1x1x16.size inb).toLoadRect.set) = (Rect.unit (s := S2x8x896) off S1x1x16.size inb).set from Finset.map_refl]
    exact load_half hoff)) $$ Hf
  iintro Hf
  rw [show bFrag.view.readAt (Elt F) (Rect.unit (s := S2x8x896) off S1x1x16.size inb).toLoadRect fv = lanes fv b k g from read_lanes hoff hb hk hg fv]
  rw [wp_assume_of _ _ _ _ (hchk _ fun x => by rw [lanes_cast]; exact hfv _)]
  iapply (wp_load 𝒱₀ (VT d i) none Set.univ (m := bAlpha) (S := half b) (by
    rw [show (bAlpha.view.setOn (Rect.unit (s := S2x8x896) off S1x1x16.size inb).toLoadRect.set) = (Rect.unit (s := S2x8x896) off S1x1x16.size inb).set from Finset.map_refl]
    exact load_half hoff)) $$ Ha
  iintro Ha
  rw [show bAlpha.view.readAt (Elt F) (Rect.unit (s := S2x8x896) off S1x1x16.size inb).toLoadRect av = lanes av b k g from read_lanes hoff hb hk hg av]
  iapply (SparseCore.wp_vectorLoadIdx 𝒱₀ (VT d i) none Set.univ (base := bTab) (S := Finset.univ) (q := fullShare) (Finset.subset_univ _)) $$ Ht
  iintro Ht
  rw [gather_lanes]
  iapply Hk
  isplitl [Hf]; · iexact Hf
  isplitl [Ha] <;> iassumption

/-! ## The group's sixteen pixels, and their store -/

/-- The sixteen pixels of group `g` of buffer `b`. -/
def pixLanes (fv : IVec S2x8x896 32) (av : FVec F S2x8x896 .f32) (tv : FVec F S100000 .f32) (b g : ℕ) : FVec F S16 .f32 :=
  fun x => bufPixel fv av tv b (16 * g + (x 0).val)

/-- The pixel buffer with the first `n` pixels of row `b` written. -/
def painted (fv : IVec S2x8x896 32) (av : FVec F S2x8x896 .f32) (tv : FVec F S100000 .f32) (b n : ℕ) (ov : FVec F S2x896 .f32) : FVec F S2x896 .f32 :=
  fun x => if (x 0).val = b ∧ (x 1).val < n then bufPixel fv av tv b (x 1).val else ov x

theorem store_half {off : Fin 2 → ℕ} {inb : ∀ a, off a + S1x16.size a ≤ S2x896.size a} {b g : ℕ} (hoff : off = ![b, 16 * g]) :
    (Rect.unit (s := S2x896) off S1x16.size inb).set ⊆ halfRow b := by
  intro x hx
  have h := (Rect.mem_set_unit.mp hx) 0
  subst hoff
  refine Finset.mem_filter.mpr ⟨Finset.mem_univ _, ?_⟩
  have h1 : b ≤ (x 0).val := h.1
  have h2 : (x 0).val < b + 1 := h.2
  omega

theorem row_cast {α : Type} (w : S16.Idx → α) (x : S1x16.Idx) (y : S16.Idx) (h : (y 0).val = (x 1).val) :
    shapeCast S1x16 w shapeCasts_S16_S1x16 x = w y := by
  refine shapeCast_apply _ _ x y ?_
  have h0 : (x 0).val < 1 := (x 0).isLt
  rw [Shape.rowMajor_val_one, Shape.rowMajor_val_two]
  show (y 0).val = (x 0).val * 16 + (x 1).val
  omega

/-- Storing the sixteen pixels of group `g` paints them. -/
theorem store_painted {off : Fin 2 → ℕ} {inb : ∀ a, off a + S1x16.size a ≤ S2x896.size a} {b g : ℕ} (hoff : off = ![b, 16 * g])
    (fv : IVec S2x8x896 32) (av : FVec F S2x8x896 .f32) (tv : FVec F S100000 .f32) (ov : FVec F S2x896 .f32) :
    ∀ x ∈ halfRow b, (bOut.access (Rect.unit (s := S2x896) off S1x16.size inb)).write (Elt F) (painted fv av tv b (16 * g) ov)
      (shapeCast S1x16 (pixLanes fv av tv b g) shapeCasts_S16_S1x16) Finset.univ x = painted fv av tv b (16 * (g + 1)) ov x := by
  intro x hx
  have hb : (x 0).val = b := (Finset.mem_filter.mp hx).2
  by_cases hm : x ∈ (Rect.unit (s := S2x896) off S1x16.size inb).set
  · rw [← Rect.map_emb_univ] at hm
    obtain ⟨y, -, rfl⟩ := Finset.mem_map.mp hm
    have h1 : (y 1).val < 16 := (y 1).isLt
    have e1 : ((Rect.unit (s := S2x896) off S1x16.size inb).emb y 1).val = 16 * g + (y 1).val := by
      rw [Rect.emb_apply]; subst hoff
      show 16 * g + 1 * (y 1).val = _; omega
    refine (View.write_emb_of_mem (v := bOut.access (Rect.unit (s := S2x896) off S1x16.size inb)) _ _ (Finset.mem_univ y)).trans ?_
    refine (cast_eq _ _).trans ?_
    rw [row_cast _ y (ixN S16 (by decide) ![(y 1).val]) (Nat.mod_eq_of_lt h1)]
    unfold painted
    rw [if_pos ⟨hb, by rw [e1]; omega⟩, e1]
    show bufPixel fv av tv b (16 * g + (y 1).val % 16) = _
    rw [Nat.mod_eq_of_lt h1]
  · rw [View.write_of_not_mem _ _ _ (by rw [show (bOut.access (Rect.unit (s := S2x896) off S1x16.size inb)).setOn Finset.univ = (Rect.unit (s := S2x896) off S1x16.size inb).set from View.set_slice_whole _ _]; exact hm)]
    unfold painted
    refine if_congr (and_congr_right fun _ => ⟨fun h => by omega, fun h => ?_⟩) rfl rfl
    by_contra hlt
    refine hm (Rect.mem_set_unit.mpr fun a => ?_)
    subst hoff
    fin_cases a
    · exact ⟨show b ≤ (x 0).val by omega, show (x 0).val < b + 1 by omega⟩
    · exact ⟨show 16 * g ≤ (x 1).val by omega, show (x 1).val < 16 * g + 16 by omega⟩

/-- The end of a group: the dead load of the pixels' old contents, and the store of the new. -/
theorem wp_put {b g : ℕ} {off : Fin 2 → ℕ} {inb : ∀ a, off a + S1x16.size a ≤ S2x896.size a} (hoff : off = ![b, 16 * g])
    (fv : IVec S2x8x896 32) (av : FVec F S2x8x896 .f32) (tv : FVec F S100000 .f32) (ov : FVec F S2x896 .f32) {w : FVec F S16 .f32} (hw : w = pixLanes fv av tv b g)
    {l : bOut.view.LoadsAt (Rect.unit (s := S2x896) off S1x16.size inb).toLoadRect} {st} {st'} {Q : Unit → sProp 𝕄} :
    ownOut (F := F) d i b (painted fv av tv b (16 * g) ov)
      ⊢ iprop((ownOut (F := F) d i b (painted fv av tv b (16 * (g + 1)) ov) -∗ Q ⟨⟩)
        -∗ wp frame (wpE (defs₀ (F := F)) 𝒱₀ (VT d i) none) Set.univ
          (.op (.load bOut (Rect.unit (s := S2x896) off S1x16.size inb).toLoadRect l) fun (_ : FVec F S1x16 .f32) =>
            .op (.store bOut (Rect.unit (s := S2x896) off S1x16.size inb) (shapeCast S1x16 w shapeCasts_S16_S1x16) Finset.univ st st') fun _ => .ret ⟨⟩) Q) := by
  subst hw
  iintro Ho Hk
  iapply (wp_load 𝒱₀ (VT d i) none Set.univ (m := bOut) (S := halfRow b) (by
    rw [show (bOut.view.setOn (Rect.unit (s := S2x896) off S1x16.size inb).toLoadRect.set) = (Rect.unit (s := S2x896) off S1x16.size inb).set from Finset.map_refl]
    exact store_half hoff)) $$ Ho
  iintro Ho
  iapply (wp_store 𝒱₀ (VT d i) none Set.univ (m := bOut) (r := Rect.unit (s := S2x896) off S1x16.size inb) (Mk := Finset.univ) (S := halfRow b) (by
    rw [show (bOut.access (Rect.unit (s := S2x896) off S1x16.size inb)).setOn Finset.univ = (Rect.unit (s := S2x896) off S1x16.size inb).set from View.set_slice_whole _ _]
    exact store_half hoff)) $$ Ho
  iintro Ho
  ihave Ho := (BIBase.Entails.of_eq (pointsTo_congr (store_painted hoff fv av tv ov))) $$ Ho
  rw [wp_ret]
  imodintro
  iapply Hk
  iexact Ho

/-! ## The two bodies -/

theorem lanes_vec {α : Type} (f : S2x8x896.Idx → α) (b k g : ℕ) :
    shapeCast S16 (lanes f b k g) shapeCasts_S1x1x16_S16 = fun x => f (ixBuf b k (16 * g + (x 0).val)) :=
  funext fun x => lanes_cast f b k g x

/-- The kernel's inner loop on slot 0, at trip `t` of the outer loop, and on slot 1. -/
abbrev body0 (t : Fin k0_t1_loop.trips) := k0_t2_body (F := F) i aFrag (Memref.isWhole_whole _) aAlpha (Memref.isWhole_whole _) aTab (Memref.isWhole_whole _) aOut (Memref.isWhole_whole _)
  bTab (Memref.isWhole_whole _) bFrag (Memref.isWhole_whole _) bAlpha (Memref.isWhole_whole _) bOut (Memref.isWhole_whole _)
  cc0_scratch4 cc0_scratch5 cc0_scratch6 cc0_scratch7 cc0_scratch8 cc0_scratch9 cc0_scoped0 0#32 1#32 t
abbrev body1 := k0_t3_body (F := F) i aFrag (Memref.isWhole_whole _) aAlpha (Memref.isWhole_whole _) aTab (Memref.isWhole_whole _) aOut (Memref.isWhole_whole _)
  bTab (Memref.isWhole_whole _) bFrag (Memref.isWhole_whole _) bAlpha (Memref.isWhole_whole _) bOut (Memref.isWhole_whole _)
  cc0_scratch4 cc0_scratch5 cc0_scratch6 cc0_scratch7 cc0_scratch8 cc0_scratch9 cc0_scoped0

/-- What a group takes and gives back, on buffer `b`: the fragments, the weights, the table, and the first `16 g` pixels. -/
abbrev grp (fv : IVec S2x8x896 32) (av : FVec F S2x8x896 .f32) (tv : FVec F S100000 .f32) (ov : FVec F S2x896 .f32) (b g : ℕ) : sProp 𝕄 :=
  iprop((ownFrag (F := F) d i b fv ∗ ownAlpha d i b av ∗ ownTab d i tv) ∗ ownOut d i b (painted fv av tv b (16 * g) ov))

theorem lanes_inb (v : IVec S16 32) (hv : ∀ x, (v x).toNat < 100000) : ∀ a x, ((![v] : Fin 1 → IVec S16 32) a x).toNat < S100000.size a := by
  intro a x; fin_cases a; exact hv x

theorem wp_body0 (t : Fin k0_t1_loop.trips) (g : Fin k0_t2_loop.trips) (fv : IVec S2x8x896 32) (av : FVec F S2x8x896 .f32) (tv : FVec F S100000 .f32) (ov : FVec F S2x896 .f32)
    (hfv : ∀ x, (fv x).toNat < 100000) :
    grp d i fv av tv ov 0 g.val
      ⊢ wp frame (wpE (defs₀ (F := F)) 𝒱₀ (VT d i) none) Set.univ (body0 i t g ⟨⟩) fun _ => grp d i fv av tv ov 0 (g.val + 1) := by
  have hg : g.val < 56 := trips2 ▸ g.isLt
  unfold body0 k0_t2_body
  simp only [k0_part1_eq_skeleton, k0_part2_eq_skeleton, k0_part3_eq_skeleton]
  unfold k0_part1_skel k0_part2_skel k0_part3_skel
  simp only [Prog.lift, Prog.bind_op, Prog.bind_ret, Prog.pure_eq_ret, bind_assoc, k0_pay20]
  iintro ⟨H, Ho⟩
  iapply (wp_fetch (F := F) d i (b := 0) (k := 0) (g := g.val) (k0_off6_eq g) (by omega) (by omega) hg fv av tv hfv (chk := k0_chk1) lanes_inb (dec := k0_chk1.dec) k0_idx1_inb) $$ H
  iintro H
  iapply (wp_fetch (F := F) d i (b := 0) (k := 1) (g := g.val) (k0_off7_eq g) (by omega) (by omega) hg fv av tv hfv (chk := k0_chk2) lanes_inb (dec := k0_chk2.dec) k0_idx2_inb) $$ H
  iintro H
  iapply (wp_fetch (F := F) d i (b := 0) (k := 2) (g := g.val) (k0_off8_eq g) (by omega) (by omega) hg fv av tv hfv (chk := k0_chk3) lanes_inb (dec := k0_chk3.dec) k0_idx3_inb) $$ H
  iintro H
  iapply (wp_fetch (F := F) d i (b := 0) (k := 3) (g := g.val) (k0_off9_eq g) (by omega) (by omega) hg fv av tv hfv (chk := k0_chk4) lanes_inb (dec := k0_chk4.dec) k0_idx4_inb) $$ H
  iintro H
  iapply (wp_fetch (F := F) d i (b := 0) (k := 4) (g := g.val) (k0_off10_eq g) (by omega) (by omega) hg fv av tv hfv (chk := k0_chk5) lanes_inb (dec := k0_chk5.dec) k0_idx5_inb) $$ H
  iintro H
  iapply (wp_fetch (F := F) d i (b := 0) (k := 5) (g := g.val) (k0_off11_eq g) (by omega) (by omega) hg fv av tv hfv (chk := k0_chk6) lanes_inb (dec := k0_chk6.dec) k0_idx6_inb) $$ H
  iintro H
  iapply (wp_fetch (F := F) d i (b := 0) (k := 6) (g := g.val) (k0_off12_eq g) (by omega) (by omega) hg fv av tv hfv (chk := k0_chk7) lanes_inb (dec := k0_chk7.dec) k0_idx7_inb) $$ H
  iintro H
  iapply (wp_fetch (F := F) d i (b := 0) (k := 7) (g := g.val) (k0_off13_eq g) (by omega) (by omega) hg fv av tv hfv (chk := k0_chk8) lanes_inb (dec := k0_chk8.dec) k0_idx8_inb) $$ H
  iintro H
  iapply (wp_put (F := F) d i (b := 0) (g := g.val) (k0_off14_eq g) fv av tv ov (by
    simp only [k0_pay40, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, lanes_vec]
    rfl)) $$ Ho
  iintro Ho
  isplitl [H] <;> iassumption

theorem wp_body1 (g : Fin k0_t3_loop.trips) (fv : IVec S2x8x896 32) (av : FVec F S2x8x896 .f32) (tv : FVec F S100000 .f32) (ov : FVec F S2x896 .f32)
    (hfv : ∀ x, (fv x).toNat < 100000) :
    grp d i fv av tv ov 1 g.val
      ⊢ wp frame (wpE (defs₀ (F := F)) 𝒱₀ (VT d i) none) Set.univ (body1 i g ⟨⟩) fun _ => grp d i fv av tv ov 1 (g.val + 1) := by
  have hg : g.val < 56 := trips3 ▸ g.isLt
  unfold body1 k0_t3_body
  simp only [k0_part4_eq_skeleton, k0_part5_eq_skeleton, k0_part6_eq_skeleton]
  unfold k0_part4_skel k0_part5_skel k0_part6_skel
  simp only [Prog.lift, Prog.bind_op, Prog.bind_ret, Prog.pure_eq_ret, bind_assoc, k0_pay39]
  iintro ⟨H, Ho⟩
  iapply (wp_fetch (F := F) d i (b := 1) (k := 0) (g := g.val) (k0_off18_eq g) (by omega) (by omega) hg fv av tv hfv (chk := k0_chk9) lanes_inb (dec := k0_chk9.dec) k0_idx9_inb) $$ H
  iintro H
  iapply (wp_fetch (F := F) d i (b := 1) (k := 1) (g := g.val) (k0_off19_eq g) (by omega) (by omega) hg fv av tv hfv (chk := k0_chk10) lanes_inb (dec := k0_chk10.dec) k0_idx10_inb) $$ H
  iintro H
  iapply (wp_fetch (F := F) d i (b := 1) (k := 2) (g := g.val) (k0_off20_eq g) (by omega) (by omega) hg fv av tv hfv (chk := k0_chk11) lanes_inb (dec := k0_chk11.dec) k0_idx11_inb) $$ H
  iintro H
  iapply (wp_fetch (F := F) d i (b := 1) (k := 3) (g := g.val) (k0_off21_eq g) (by omega) (by omega) hg fv av tv hfv (chk := k0_chk12) lanes_inb (dec := k0_chk12.dec) k0_idx12_inb) $$ H
  iintro H
  iapply (wp_fetch (F := F) d i (b := 1) (k := 4) (g := g.val) (k0_off22_eq g) (by omega) (by omega) hg fv av tv hfv (chk := k0_chk13) lanes_inb (dec := k0_chk13.dec) k0_idx13_inb) $$ H
  iintro H
  iapply (wp_fetch (F := F) d i (b := 1) (k := 5) (g := g.val) (k0_off23_eq g) (by omega) (by omega) hg fv av tv hfv (chk := k0_chk14) lanes_inb (dec := k0_chk14.dec) k0_idx14_inb) $$ H
  iintro H
  iapply (wp_fetch (F := F) d i (b := 1) (k := 6) (g := g.val) (k0_off24_eq g) (by omega) (by omega) hg fv av tv hfv (chk := k0_chk15) lanes_inb (dec := k0_chk15.dec) k0_idx15_inb) $$ H
  iintro H
  iapply (wp_fetch (F := F) d i (b := 1) (k := 7) (g := g.val) (k0_off25_eq g) (by omega) (by omega) hg fv av tv hfv (chk := k0_chk16) lanes_inb (dec := k0_chk16.dec) k0_idx16_inb) $$ H
  iintro H
  iapply (wp_put (F := F) d i (b := 1) (g := g.val) (k0_off26_eq g) fv av tv ov (by
    simp only [k0_pay1, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, lanes_vec]
    rfl)) $$ Ho
  iintro Ho
  isplitl [H] <;> iassumption

end Cert.Proof.Render

end
-- ==== Proof.Copies.lean ====
/- The tile's copies: what each one in flight will deliver, its issue and its wait. A block is the 896 pixels one copy
   moves; block `j` of an image holds pixels `896 j … 896 j + 895`. -/
module

public import proofs.«01_k».proof.Proof.Group

@[expose] public section

noncomputable section

namespace Cert.Proof.Render

open Cert.KernelIdeal Cert.KernelIdeal.Gen

open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The views of the copies -/

abbrev blkFrag (off : Fin 3 → ℕ) (inb : ∀ a, off a + S1x8x896.size a ≤ S8x8x50176.size a) : Memref sig .scVector .hbm S8x896 .i32 :=
  (aFrag.slice (Rect.unit (s := S8x8x50176) off S1x8x896.size inb) (fun _ => rfl)).squeeze S8x896 squeezes_S1x8x896_S8x896
abbrev blkAlpha (off : Fin 3 → ℕ) (inb : ∀ a, off a + S1x8x896.size a ≤ S8x8x50176.size a) : Memref sig .scVector .hbm S8x896 .f32 :=
  (aAlpha.slice (Rect.unit (s := S8x8x50176) off S1x8x896.size inb) (fun _ => rfl)).squeeze S8x896 squeezes_S1x8x896_S8x896
abbrev slotFrag (b : ℕ) (inb : ∀ a, (![b, 0, 0] : Fin 3 → ℕ) a + S1x8x896.size a ≤ S2x8x896.size a) : Memref sig .scVector .vmem S8x896 .i32 :=
  (bFrag.slice (Rect.unit (s := S2x8x896) ![b, 0, 0] S1x8x896.size inb) (fun _ => rfl)).squeeze S8x896 squeezes_S1x8x896_S8x896
abbrev slotAlpha (b : ℕ) (inb : ∀ a, (![b, 0, 0] : Fin 3 → ℕ) a + S1x8x896.size a ≤ S2x8x896.size a) : Memref sig .scVector .vmem S8x896 .f32 :=
  (bAlpha.slice (Rect.unit (s := S2x8x896) ![b, 0, 0] S1x8x896.size inb) (fun _ => rfl)).squeeze S8x896 squeezes_S1x8x896_S8x896
abbrev slotOut (b : ℕ) (inb : ∀ a, (![b, 0] : Fin 2 → ℕ) a + S1x896.size a ≤ S2x896.size a) : Memref sig .scVector .vmem S896 .f32 :=
  (bOut.slice (Rect.unit (s := S2x896) ![b, 0] S1x896.size inb) (fun _ => rfl)).squeeze S896 squeezes_S1x896_S896
abbrev blkOut (off : Fin 3 → ℕ) (inb : ∀ a, off a + S1x1x896.size a ≤ S8x4x50176.size a) : Memref sig .scVector .hbm S896 .f32 :=
  (aOut.slice (Rect.unit (s := S8x4x50176) off S1x1x896.size inb) (fun _ => rfl)).squeeze S896 squeezes_S1x1x896_S896
abbrev rowTab (off : Fin 2 → ℕ) (inb : ∀ a, off a + S1x100000.size a ≤ S4x100000.size a) : Memref sig .scVector .hbm S100000 .f32 :=
  (aTab.slice (Rect.unit (s := S4x100000) off S1x100000.size inb) (fun _ => rfl)).squeeze S100000 squeezes_S1x100000_S100000

abbrev ixOut (n c p : ℕ) : S8x4x50176.Idx := ixN S8x4x50176 (by decide) ![n, c, p]

/-! ## Where their elements lie -/

theorem blk_emb {off : Fin 3 → ℕ} {inb : ∀ a, off a + S1x8x896.size a ≤ S8x8x50176.size a} {n j : ℕ} (hoff : off = ![n, 0, 896 * j])
    (y : S8x896.Idx) : (blkFrag off inb).view.emb y = ixIn n (y 0).val (896 * j + (y 1).val) := by
  subst hoff
  let z : S1x8x896.Idx := ixN S1x8x896 (by decide) ![0, (y 0).val, (y 1).val]
  have h0 : (y 0).val < 8 := (y 0).isLt
  have h1 : (y 1).val < 896 := (y 1).isLt
  have e : Shape.reshapeEquiv squeezes_S1x8x896_S8x896.numel_eq y = z := by
    refine Shape.reshapeEquiv_eq_of_rowMajor _ ?_
    rw [Shape.rowMajor_val_three, Shape.rowMajor_val_two]
    show (0 % 1 * 8 + (y 0).val % 8) * 896 + (y 1).val % 896 = (y 0).val * 896 + (y 1).val
    omega
  show (Rect.unit (s := S8x8x50176) ![n, 0, 896 * j] S1x8x896.size inb).emb (Shape.reshapeEquiv squeezes_S1x8x896_S8x896.numel_eq y) = _
  rw [e]
  refine (ixN_eq _ fun a => ?_).symm
  rw [Rect.emb_apply]
  fin_cases a
  · show n = n + 1 * (0 % 1); omega
  · show (y 0).val = 0 + 1 * ((y 0).val % 8); omega
  · show 896 * j + (y 1).val = 896 * j + 1 * ((y 1).val % 896); omega

theorem slot_emb {b : ℕ} {inb : ∀ a, (![b, 0, 0] : Fin 3 → ℕ) a + S1x8x896.size a ≤ S2x8x896.size a}
    (y : S8x896.Idx) : (slotFrag b inb).view.emb y = ixBuf b (y 0).val (y 1).val := by
  let z : S1x8x896.Idx := ixN S1x8x896 (by decide) ![0, (y 0).val, (y 1).val]
  have h0 : (y 0).val < 8 := (y 0).isLt
  have h1 : (y 1).val < 896 := (y 1).isLt
  have e : Shape.reshapeEquiv squeezes_S1x8x896_S8x896.numel_eq y = z := by
    refine Shape.reshapeEquiv_eq_of_rowMajor _ ?_
    rw [Shape.rowMajor_val_three, Shape.rowMajor_val_two]
    show (0 % 1 * 8 + (y 0).val % 8) * 896 + (y 1).val % 896 = (y 0).val * 896 + (y 1).val
    omega
  show (Rect.unit (s := S2x8x896) ![b, 0, 0] S1x8x896.size inb).emb (Shape.reshapeEquiv squeezes_S1x8x896_S8x896.numel_eq y) = _
  rw [e]
  refine (ixN_eq _ fun a => ?_).symm
  rw [Rect.emb_apply]
  fin_cases a
  · show b = b + 1 * (0 % 1); omega
  · show (y 0).val = 0 + 1 * ((y 0).val % 8); omega
  · show (y 1).val = 0 + 1 * ((y 1).val % 896); omega

theorem row_emb {b : ℕ} {inb : ∀ a, (![b, 0] : Fin 2 → ℕ) a + S1x896.size a ≤ S2x896.size a}
    (y : S896.Idx) : (slotOut b inb).view.emb y = ixRow b (y 0).val := by
  let z : S1x896.Idx := ixN S1x896 (by decide) ![0, (y 0).val]
  have h0 : (y 0).val < 896 := (y 0).isLt
  have e : Shape.reshapeEquiv squeezes_S1x896_S896.numel_eq y = z := by
    refine Shape.reshapeEquiv_eq_of_rowMajor _ ?_
    rw [Shape.rowMajor_val_two, Shape.rowMajor_val_one]
    show 0 % 1 * 896 + (y 0).val % 896 = (y 0).val
    omega
  show (Rect.unit (s := S2x896) ![b, 0] S1x896.size inb).emb (Shape.reshapeEquiv squeezes_S1x896_S896.numel_eq y) = _
  rw [e]
  refine (ixN_eq _ fun a => ?_).symm
  rw [Rect.emb_apply]
  fin_cases a
  · show b = b + 1 * (0 % 1); omega
  · show (y 0).val = 0 + 1 * ((y 0).val % 896); omega

theorem out_emb {off : Fin 3 → ℕ} {inb : ∀ a, off a + S1x1x896.size a ≤ S8x4x50176.size a} {n c j : ℕ} (hoff : off = ![n, c, 896 * j])
    (y : S896.Idx) : (blkOut off inb).view.emb y = ixOut n c (896 * j + (y 0).val) := by
  subst hoff
  let z : S1x1x896.Idx := ixN S1x1x896 (by decide) ![0, 0, (y 0).val]
  have h0 : (y 0).val < 896 := (y 0).isLt
  have e : Shape.reshapeEquiv squeezes_S1x1x896_S896.numel_eq y = z := by
    refine Shape.reshapeEquiv_eq_of_rowMajor _ ?_
    rw [Shape.rowMajor_val_three, Shape.rowMajor_val_one]
    show (0 % 1 * 1 + 0 % 1) * 896 + (y 0).val % 896 = (y 0).val
    omega
  show (Rect.unit (s := S8x4x50176) ![n, c, 896 * j] S1x1x896.size inb).emb (Shape.reshapeEquiv squeezes_S1x1x896_S896.numel_eq y) = _
  rw [e]
  refine (ixN_eq _ fun a => ?_).symm
  rw [Rect.emb_apply]
  fin_cases a
  · show n = n + 1 * (0 % 1); omega
  · show c = c + 1 * (0 % 1); omega
  · show 896 * j + (y 0).val = 896 * j + 1 * ((y 0).val % 896); omega

theorem tab_emb {off : Fin 2 → ℕ} {inb : ∀ a, off a + S1x100000.size a ≤ S4x100000.size a} {c : ℕ} (hoff : off = ![c, 0])
    (y : S100000.Idx) : (rowTab off inb).view.emb y = ixPts c (y 0).val := by
  subst hoff
  let z : S1x100000.Idx := ixN S1x100000 (by decide) ![0, (y 0).val]
  have h0 : (y 0).val < 100000 := (y 0).isLt
  have e : Shape.reshapeEquiv squeezes_S1x100000_S100000.numel_eq y = z := by
    refine Shape.reshapeEquiv_eq_of_rowMajor _ ?_
    rw [Shape.rowMajor_val_two, Shape.rowMajor_val_one]
    show 0 % 1 * 100000 + (y 0).val % 100000 = (y 0).val
    omega
  show (Rect.unit (s := S4x100000) ![c, 0] S1x100000.size inb).emb (Shape.reshapeEquiv squeezes_S1x100000_S100000.numel_eq y) = _
  rw [e]
  refine (ixN_eq _ fun a => ?_).symm
  rw [Rect.emb_apply]
  fin_cases a
  · show c = c + 1 * (0 % 1); omega
  · show (y 0).val = 0 + 1 * ((y 0).val % 100000); omega

/-! ## The element sets -/

/-- The tile's pixels of the result below block `j`, in block `j`, and from block `j` on. -/
def doneSet (n c j : ℕ) : Finset S8x4x50176.Idx := Finset.univ.filter fun x => (x 0).val = n ∧ (x 1).val = c ∧ (x 2).val < 896 * j
def blkSet (n c j : ℕ) : Finset S8x4x50176.Idx := Finset.univ.filter fun x => (x 0).val = n ∧ (x 1).val = c ∧ 896 * j ≤ (x 2).val ∧ (x 2).val < 896 * (j + 1)
def todoSet (n c j : ℕ) : Finset S8x4x50176.Idx := Finset.univ.filter fun x => (x 0).val = n ∧ (x 1).val = c ∧ 896 * j ≤ (x 2).val

theorem slot_rect {b : ℕ} {inb : ∀ a, (![b, 0, 0] : Fin 3 → ℕ) a + S1x8x896.size a ≤ S2x8x896.size a} :
    (Rect.unit (s := S2x8x896) ![b, 0, 0] S1x8x896.size inb).set = half b := by
  ext x
  rw [Rect.mem_set_unit, half, Finset.mem_filter]
  have h1 : (x 1).val < 8 := (x 1).isLt
  have h2 : (x 2).val < 896 := (x 2).isLt
  constructor
  · intro h
    have := h 0
    exact ⟨Finset.mem_univ _, by have h3 : b ≤ (x 0).val := this.1; have h4 : (x 0).val < b + 1 := this.2; omega⟩
  · rintro ⟨-, h⟩ a
    fin_cases a
    · exact ⟨show b ≤ (x 0).val by omega, show (x 0).val < b + 1 by omega⟩
    · exact ⟨Nat.zero_le _, show (x 1).val < 0 + 8 by omega⟩
    · exact ⟨Nat.zero_le _, show (x 2).val < 0 + 896 by omega⟩

theorem slot_set {b : ℕ} {inb : ∀ a, (![b, 0, 0] : Fin 3 → ℕ) a + S1x8x896.size a ≤ S2x8x896.size a} :
    (slotFrag b inb).view.set = half b :=
  (View.set_reshape (bFrag.view.slice (Rect.unit (s := S2x8x896) ![b, 0, 0] S1x8x896.size inb)) _).trans ((View.set_slice_whole _ _).trans slot_rect)
theorem slotA_set {b : ℕ} {inb : ∀ a, (![b, 0, 0] : Fin 3 → ℕ) a + S1x8x896.size a ≤ S2x8x896.size a} :
    (slotAlpha b inb).view.set = half b :=
  (View.set_reshape (bAlpha.view.slice (Rect.unit (s := S2x8x896) ![b, 0, 0] S1x8x896.size inb)) _).trans ((View.set_slice_whole _ _).trans slot_rect)

theorem row_set {b : ℕ} {inb : ∀ a, (![b, 0] : Fin 2 → ℕ) a + S1x896.size a ≤ S2x896.size a} :
    (slotOut b inb).view.set = halfRow b := by
  rw [show (slotOut b inb).view.set = (bOut.view.slice (Rect.unit (s := S2x896) ![b, 0] S1x896.size inb)).set from View.set_reshape _ _,
    show (bOut.view.slice (Rect.unit (s := S2x896) ![b, 0] S1x896.size inb)).set = (Rect.unit (s := S2x896) ![b, 0] S1x896.size inb).set from View.set_slice_whole _ _]
  ext x
  rw [Rect.mem_set_unit, halfRow, Finset.mem_filter]
  have h1 : (x 1).val < 896 := (x 1).isLt
  constructor
  · intro h
    have := h 0
    exact ⟨Finset.mem_univ _, by have h3 : b ≤ (x 0).val := this.1; have h4 : (x 0).val < b + 1 := this.2; omega⟩
  · rintro ⟨-, h⟩ a
    fin_cases a
    · exact ⟨show b ≤ (x 0).val by omega, show (x 0).val < b + 1 by omega⟩
    · exact ⟨Nat.zero_le _, show (x 1).val < 0 + 896 by omega⟩

theorem out_set {off : Fin 3 → ℕ} {inb : ∀ a, off a + S1x1x896.size a ≤ S8x4x50176.size a} {n c j : ℕ} (hoff : off = ![n, c, 896 * j]) :
    (blkOut off inb).view.set = blkSet n c j := by
  rw [show (blkOut off inb).view.set = (aOut.view.slice (Rect.unit (s := S8x4x50176) off S1x1x896.size inb)).set from View.set_reshape _ _,
    show (aOut.view.slice (Rect.unit (s := S8x4x50176) off S1x1x896.size inb)).set = (Rect.unit (s := S8x4x50176) off S1x1x896.size inb).set from View.set_slice_whole _ _]
  subst hoff
  ext x
  rw [Rect.mem_set_unit, blkSet, Finset.mem_filter]
  constructor
  · intro h
    have h0 : n ≤ (x 0).val ∧ (x 0).val < n + 1 := h 0
    have h1 : c ≤ (x 1).val ∧ (x 1).val < c + 1 := h 1
    have h2 : 896 * j ≤ (x 2).val ∧ (x 2).val < 896 * j + 896 := h 2
    exact ⟨Finset.mem_univ _, by omega, by omega, by omega, by omega⟩
  · rintro ⟨-, h0, h1, h2, h3⟩ a
    fin_cases a
    · exact ⟨show n ≤ (x 0).val by omega, show (x 0).val < n + 1 by omega⟩
    · exact ⟨show c ≤ (x 1).val by omega, show (x 1).val < c + 1 by omega⟩
    · exact ⟨show 896 * j ≤ (x 2).val by omega, show (x 2).val < 896 * j + 896 by omega⟩

theorem todo_split (n c j : ℕ) : todoSet n c j = blkSet n c j ∪ todoSet n c (j + 1) := by
  ext x; simp only [todoSet, blkSet, Finset.mem_union, Finset.mem_filter, Finset.mem_univ, true_and]; omega
theorem done_split (n c j : ℕ) : doneSet n c (j + 1) = doneSet n c j ∪ blkSet n c j := by
  ext x; simp only [doneSet, blkSet, Finset.mem_union, Finset.mem_filter, Finset.mem_univ, true_and]; omega
theorem todo_disj (n c j : ℕ) : Disjoint (blkSet n c j) (todoSet n c (j + 1)) := by
  refine Finset.disjoint_left.mpr fun x h h' => ?_
  simp only [todoSet, blkSet, Finset.mem_filter, Finset.mem_univ, true_and] at h h'; omega
theorem done_disj (n c j : ℕ) : Disjoint (doneSet n c j) (blkSet n c j) := by
  refine Finset.disjoint_left.mpr fun x h h' => ?_
  simp only [doneSet, blkSet, Finset.mem_filter, Finset.mem_univ, true_and] at h h'; omega

/-! ## What the copies carry -/

/-- Block `j` of image `n`, laid out as a double buffer's half; a channel's row of the table. -/
def block {α : Type} (f : S8x8x50176.Idx → α) (n j : ℕ) : S2x8x896.Idx → α := fun x => f (ixIn n (x 1).val (896 * j + (x 2).val))
def tabRow (pts : FVec F S4x100000 .f32) (c : ℕ) : FVec F S100000 .f32 := fun x => pts (ixPts c (x 0).val)

/-- The pixels of a block rendered from the block's fragments are the result's. -/
theorem painted_block (v0 : IVec S8x8x50176 32) (v1 : FVec F S8x8x50176 .f32) (pts : FVec F S4x100000 .f32) (ov : FVec F S2x896 .f32)
    {n c b j p : ℕ} (hn : n < 8) (hc : c < 4) (hb : b < 2) (hj : j < 56) (hp : p < 896) (hr : ∀ x, (v0 x).toNat < 100000) :
    painted (block v0 n j) (block v1 n j) (tabRow pts c) b 896 ov (ixRow b p) = rendered v0 v1 pts (ixOut n c (896 * j + p)) := by
  unfold painted
  rw [if_pos ⟨Nat.mod_eq_of_lt hb, show p % 896 < 896 from Nat.mod_lt _ (by omega)⟩]
  have ep : ((ixRow b p) 1).val = p := Nat.mod_eq_of_lt hp
  have en : ((ixOut n c (896 * j + p)) 0).val = n := Nat.mod_eq_of_lt hn
  have ec : ((ixOut n c (896 * j + p)) 1).val = c := Nat.mod_eq_of_lt hc
  have eq : ((ixOut n c (896 * j + p)) 2).val = 896 * j + p := Nat.mod_eq_of_lt (show 896 * j + p < 50176 by omega)
  unfold bufPixel rendered
  rw [ep, en, ec, eq]
  have hbuf : ∀ k < 8, ∀ {α : Type} (f : S8x8x50176.Idx → α), block f n j (ixBuf b k p) = f (ixIn n k (896 * j + p)) := by
    intro k hk α f
    show f (ixIn n (k % 8) (896 * j + p % 896)) = _
    rw [Nat.mod_eq_of_lt hk, Nat.mod_eq_of_lt hp]
  refine pixel_congr (fun k hk => hbuf k hk v1) fun k hk => ?_
  rw [hbuf k hk v0]
  show pts (ixPts c ((v0 _).toNat % 100000)) = _
  rw [Nat.mod_eq_of_lt (hr _)]

/-! ## The copies in -/

variable (d : Dev nD) (i : grid0.Coords)

/-- What the tile owes, its waits so far being those of `W` and its own copies'. -/
def owing (O : CellTallies nD τ sig (HIx 1)) (W : Waits sig (HIx 1)) : sProp 𝕄 :=
  iprop(∃ W', ⌜∀ p ∈ W', p ∈ W ∨ p.2 = none⌝ ∗ owes (VT d i) O W')

theorem owing_out (O : CellTallies nD τ sig (HIx 1)) (W : Waits sig (HIx 1)) :
    owing (F := F) d i O W ⊢ (iprop(∃ W', ⌜∀ p ∈ W', p ∈ W ∨ p.2 = none⌝ ∗ owes (VT d i) O W') : sProp 𝕄) := by
  unfold owing; exact .rfl

theorem owing_insert (O : CellTallies nD τ sig (HIx 1)) (W W' : Waits sig (HIx 1)) (s : SemLoc sig) (h : ∀ p ∈ W', p ∈ W ∨ p.2 = none) :
    owes (VT d i) O (insert (s, none) W') ⊢ (owing (F := F) d i O W : sProp 𝕄) := by
  unfold owing
  iintro H
  iexists (insert (s, none) W')
  isplitr
  · ipureintro
    intro p hp
    rcases Finset.mem_insert.mp hp with e | hp
    · exact .inr (by rw [e])
    · exact h p hp
  · iexact H

theorem block_slot {α : Type} (f : S8x8x50176.Idx → α) (n j b : ℕ) (y : S8x896.Idx) :
    block f n j (ixBuf b (y 0).val (y 1).val) = f (ixIn n (y 0).val (896 * j + (y 1).val)) := by
  show f (ixIn n ((y 0).val % 8) (896 * j + (y 1).val % 896)) = _
  rw [Nat.mod_eq_of_lt (show (y 0).val < 8 from (y 0).isLt), Nat.mod_eq_of_lt (show (y 1).val < 896 from (y 1).isLt)]

theorem landFrag {off : Fin 3 → ℕ} {b j : ℕ} {inb : ∀ a, off a + S1x8x896.size a ≤ S8x8x50176.size a} {inb' : ∀ a, (![b, 0, 0] : Fin 3 → ℕ) a + S1x8x896.size a ≤ S2x8x896.size a}
    (hoff : off = ![img i, 0, 896 * j]) (f : IVec S8x8x50176 32) (v : IVec S2x8x896 32) :
    ∀ x ∈ half b, (slotFrag b inb').view.write (Elt F) v ((blkFrag off inb).view.read (Elt F) f) Finset.univ x = block f (img i) j x := by
  intro x hx
  rw [← slot_set (inb := inb')] at hx
  obtain ⟨y, -, rfl⟩ := Finset.mem_map.mp hx
  refine (View.write_emb_of_mem (v := (slotFrag b inb').view) _ _ (Finset.mem_univ y)).trans ((cast_eq _ _).trans ?_)
  rw [slot_emb, block_slot]
  exact congrArg f (show _ = _ from blk_emb (inb := inb) hoff y)

theorem landAlpha {off : Fin 3 → ℕ} {b j : ℕ} {inb : ∀ a, off a + S1x8x896.size a ≤ S8x8x50176.size a} {inb' : ∀ a, (![b, 0, 0] : Fin 3 → ℕ) a + S1x8x896.size a ≤ S2x8x896.size a}
    (hoff : off = ![img i, 0, 896 * j]) (f : FVec F S8x8x50176 .f32) (v : FVec F S2x8x896 .f32) :
    ∀ x ∈ half b, (slotAlpha b inb').view.write (Elt F) v ((blkAlpha off inb).view.read (Elt F) f) Finset.univ x = block f (img i) j x := by
  intro x hx
  rw [← slot_set (inb := inb')] at hx
  obtain ⟨y, -, rfl⟩ := Finset.mem_map.mp hx
  refine (View.write_emb_of_mem (v := (slotAlpha b inb').view) _ _ (Finset.mem_univ y)).trans ((cast_eq _ _).trans ?_)
  rw [slot_emb, block_slot]
  exact congrArg f (show _ = _ from blk_emb (inb := inb) hoff y)

theorem landedFrag {off : Fin 3 → ℕ} {b j : ℕ} {inb : ∀ a, off a + S1x8x896.size a ≤ S8x8x50176.size a} {inb' : ∀ a, (![b, 0, 0] : Fin 3 → ℕ) a + S1x8x896.size a ≤ S2x8x896.size a}
    (hoff : off = ![img i, 0, 896 * j]) (f : IVec S8x8x50176 32) (v : IVec S2x8x896 32) :
    (bFrag.view.loc (VT d i) ↦[half b]{fullShare} (slotFrag b inb').view.write (Elt F) v ((blkFrag off inb).view.read (Elt F) f) Finset.univ : sProp 𝕄)
      ⊢ ownFrag d i b (block f (img i) j) :=
  BIBase.Entails.of_eq (pointsTo_congr (landFrag i hoff f v))

/-- A block of the fragments' numbers on its way into half `b`: what it will deliver, and the rest of the source's share. -/
def gettingFrag (sem : DmaSem sig) (b j : ℕ) (q : PosShare TreeShare) (f : IVec S8x8x50176 32) : sProp 𝕄 :=
  iprop(∃ R : Finset (Idx (aFrag.view.loc (VT d i))), Flight countersEmb (VT d i) (.dma sem) none (slotFrag 0 inb_S2x8x896_S1x8x896_0_0_0).view.dmaCredit
      iprop(ownFrag (F := F) d i b (block f (img i) j) ∗ aFrag.view.loc (VT d i) ↦[R]{q} f)
    ∗ aFrag.view.loc (VT d i) ↦[Finset.univ \ R]{q} f)

theorem wp_getFrag {off : Fin 3 → ℕ} {b j : ℕ} {inb : ∀ a, off a + S1x8x896.size a ≤ S8x8x50176.size a} {inb' : ∀ a, (![b, 0, 0] : Fin 3 → ℕ) a + S1x8x896.size a ≤ S2x8x896.size a} (hoff : off = ![img i, 0, 896 * j]) (sem : DmaSem sig) (q : PosShare TreeShare)
    (f : IVec S8x8x50176 32) {s1 s2 s3} {kont : PUnit → Prog (TpuEff nD τ sig (Elt F) Λ₀ (VT d i).2) Unit} {Q : Unit → sProp 𝕄} :
    iprop((∃ v, ownFrag (F := F) d i b v) ∗ semVal (VT d i, .dma sem) 0 ∗ aFrag.view.loc (VT d i) ↦{q} f)
      ⊢ iprop((gettingFrag (F := F) d i sem b j q f -∗ wp frame (wpE (defs₀ (F := F)) 𝒱₀ (VT d i) none) Set.univ (kont ⟨⟩) Q)
        -∗ wp frame (wpE (defs₀ (F := F)) 𝒱₀ (VT d i) none) Set.univ (.op (.enqueueDma (blkFrag off inb) (.here (slotFrag b inb')) (.dma sem) s1 s2 s3) kont) Q) := by
  iintro ⟨⟨%v, Hb⟩, Hs, Ha⟩ Hk
  ihave Ha := (pointsTo_split_subset (Finset.subset_univ (blkFrag off inb).view.set)).1 $$ Ha
  icases Ha with ⟨Ha, Hr⟩
  iapply (wp_dmaLocal countersEmb 𝒱₀ (VT d i) none none ((slotFrag b inb').view.dmaCredit) rfl
    (View.dmaCredit_pos _ (by decide)) (Sd := half b) slot_set.subset) $$ [Ha Hb Hs]
  · isplitl [Ha]; · iexact Ha
    isplitl [Hb]; · iexact Hb
    iexact Hs
  iintro Hf
  iapply Hk
  unfold gettingFrag
  iexists _
  isplitl [Hf]
  · iapply (Flight_mono countersEmb (VT d i) (sep_mono_left (landedFrag d i hoff f v)))
    iexact Hf
  iexact Hr

theorem wp_gotFrag (O : CellTallies nD τ sig (HIx 1)) (W : Waits sig (HIx 1)) {s : Shape} {e : EltTy} {src : Memref sig .scVector .hbm s e} {b j : ℕ} {inb'} (sem : DmaSem sig) (q : PosShare TreeShare)
    (f : IVec S8x8x50176 32) {s1 s2} {kont : PUnit → Prog (TpuEff nD τ sig (Elt F) Λ₀ (VT d i).2) Unit} {Q : Unit → sProp 𝕄} :
    iprop(MayWaits (VT d i) none O ∗ gettingFrag (F := F) d i sem b j q f ∗ owing (F := F) d i O W)
      ⊢ iprop((iprop((ownFrag (F := F) d i b (block f (img i) j) ∗ semVal (VT d i, .dma sem) 0 ∗ aFrag.view.loc (VT d i) ↦{q} f) ∗ owing (F := F) d i O W)
          -∗ wp frame (wpE (defs₀ (F := F)) 𝒱₀ (VT d i) none) Set.univ (kont ⟨⟩) Q)
        -∗ wp frame (wpE (defs₀ (F := F)) 𝒱₀ (VT d i) none) Set.univ (.op (.waitDma2 sem src (slotFrag b inb') s1 s2) kont) Q) := by
  unfold gettingFrag
  iintro ⟨Hmw, ⟨%R, Hf, Hr⟩, HO⟩ Hk
  ihave HO := (owing_out d i O W) $$ HO
  icases HO with ⟨%W', %hW, HO⟩
  iapply (wp_waitLocalO countersEmb 𝒱₀ (VT d i) none (none : HIx 1) rfl) $$ [Hf HO Hmw]
  · isplitl [Hf]; · iexact Hf
    isplitl [HO]; · iexact HO
    iapply (MayWaits.elim (.dma sem)) $$ Hmw
  iintro ⟨⟨Hb, Ha⟩, Hs, HO⟩
  iapply Hk
  isplitr [HO]
  · isplitl [Hb]; · iexact Hb
    isplitl [Hs]; · iexact Hs
    iapply (pointsTo_split_subset (Finset.subset_univ R)).2
    isplitl [Ha] <;> iassumption
  iapply (owing_insert d i O W W' _ hW)
  iexact HO

theorem landedAlpha {off : Fin 3 → ℕ} {b j : ℕ} {inb : ∀ a, off a + S1x8x896.size a ≤ S8x8x50176.size a} {inb' : ∀ a, (![b, 0, 0] : Fin 3 → ℕ) a + S1x8x896.size a ≤ S2x8x896.size a}
    (hoff : off = ![img i, 0, 896 * j]) (f : FVec F S8x8x50176 .f32) (v : FVec F S2x8x896 .f32) :
    (bAlpha.view.loc (VT d i) ↦[half b]{fullShare} (slotAlpha b inb').view.write (Elt F) v ((blkAlpha off inb).view.read (Elt F) f) Finset.univ : sProp 𝕄)
      ⊢ ownAlpha d i b (block f (img i) j) :=
  BIBase.Entails.of_eq (pointsTo_congr (landAlpha i hoff f v))

/-- A block of the weights on its way into half `b`: what it will deliver, and the rest of the source's share. -/
def gettingAlpha (sem : DmaSem sig) (b j : ℕ) (q : PosShare TreeShare) (f : FVec F S8x8x50176 .f32) : sProp 𝕄 :=
  iprop(∃ R : Finset (Idx (aAlpha.view.loc (VT d i))), Flight countersEmb (VT d i) (.dma sem) none (slotAlpha 0 inb_S2x8x896_S1x8x896_0_0_0).view.dmaCredit
      iprop(ownAlpha (F := F) d i b (block f (img i) j) ∗ aAlpha.view.loc (VT d i) ↦[R]{q} f)
    ∗ aAlpha.view.loc (VT d i) ↦[Finset.univ \ R]{q} f)

theorem wp_getAlpha {off : Fin 3 → ℕ} {b j : ℕ} {inb : ∀ a, off a + S1x8x896.size a ≤ S8x8x50176.size a} {inb' : ∀ a, (![b, 0, 0] : Fin 3 → ℕ) a + S1x8x896.size a ≤ S2x8x896.size a} (hoff : off = ![img i, 0, 896 * j]) (sem : DmaSem sig) (q : PosShare TreeShare)
    (f : FVec F S8x8x50176 .f32) {s1 s2 s3} {kont : PUnit → Prog (TpuEff nD τ sig (Elt F) Λ₀ (VT d i).2) Unit} {Q : Unit → sProp 𝕄} :
    iprop((∃ v, ownAlpha (F := F) d i b v) ∗ semVal (VT d i, .dma sem) 0 ∗ aAlpha.view.loc (VT d i) ↦{q} f)
      ⊢ iprop((gettingAlpha (F := F) d i sem b j q f -∗ wp frame (wpE (defs₀ (F := F)) 𝒱₀ (VT d i) none) Set.univ (kont ⟨⟩) Q)
        -∗ wp frame (wpE (defs₀ (F := F)) 𝒱₀ (VT d i) none) Set.univ (.op (.enqueueDma (blkAlpha off inb) (.here (slotAlpha b inb')) (.dma sem) s1 s2 s3) kont) Q) := by
  iintro ⟨⟨%v, Hb⟩, Hs, Ha⟩ Hk
  ihave Ha := (pointsTo_split_subset (Finset.subset_univ (blkAlpha off inb).view.set)).1 $$ Ha
  icases Ha with ⟨Ha, Hr⟩
  iapply (wp_dmaLocal countersEmb 𝒱₀ (VT d i) none none ((slotAlpha b inb').view.dmaCredit) rfl
    (View.dmaCredit_pos _ (by decide)) (Sd := half b) slotA_set.subset) $$ [Ha Hb Hs]
  · isplitl [Ha]; · iexact Ha
    isplitl [Hb]; · iexact Hb
    iexact Hs
  iintro Hf
  iapply Hk
  unfold gettingAlpha
  iexists _
  isplitl [Hf]
  · iapply (Flight_mono countersEmb (VT d i) (sep_mono_left (landedAlpha d i hoff f v)))
    iexact Hf
  iexact Hr

theorem wp_gotAlpha (O : CellTallies nD τ sig (HIx 1)) (W : Waits sig (HIx 1)) {s : Shape} {e : EltTy} {src : Memref sig .scVector .hbm s e} {b j : ℕ} {inb'} (sem : DmaSem sig) (q : PosShare TreeShare)
    (f : FVec F S8x8x50176 .f32) {s1 s2} {kont : PUnit → Prog (TpuEff nD τ sig (Elt F) Λ₀ (VT d i).2) Unit} {Q : Unit → sProp 𝕄} :
    iprop(MayWaits (VT d i) none O ∗ gettingAlpha (F := F) d i sem b j q f ∗ owing (F := F) d i O W)
      ⊢ iprop((iprop((ownAlpha (F := F) d i b (block f (img i) j) ∗ semVal (VT d i, .dma sem) 0 ∗ aAlpha.view.loc (VT d i) ↦{q} f) ∗ owing (F := F) d i O W)
          -∗ wp frame (wpE (defs₀ (F := F)) 𝒱₀ (VT d i) none) Set.univ (kont ⟨⟩) Q)
        -∗ wp frame (wpE (defs₀ (F := F)) 𝒱₀ (VT d i) none) Set.univ (.op (.waitDma2 sem src (slotAlpha b inb') s1 s2) kont) Q) := by
  unfold gettingAlpha
  iintro ⟨Hmw, ⟨%R, Hf, Hr⟩, HO⟩ Hk
  ihave HO := (owing_out d i O W) $$ HO
  icases HO with ⟨%W', %hW, HO⟩
  iapply (wp_waitLocalO countersEmb 𝒱₀ (VT d i) none (none : HIx 1) rfl) $$ [Hf HO Hmw]
  · isplitl [Hf]; · iexact Hf
    isplitl [HO]; · iexact HO
    iapply (MayWaits.elim (.dma sem)) $$ Hmw
  iintro ⟨⟨Hb, Ha⟩, Hs, HO⟩
  iapply Hk
  isplitr [HO]
  · isplitl [Hb]; · iexact Hb
    isplitl [Hs]; · iexact Hs
    iapply (pointsTo_split_subset (Finset.subset_univ R)).2
    isplitl [Ha] <;> iassumption
  iapply (owing_insert d i O W W' _ hW)
  iexact HO

/-! ## The copies out -/

/-- Block `j` of the tile's result on its way out of row `b` of the pixel buffer. -/
def putting (sem : DmaSem sig) (b j : ℕ) (G : FVec F S8x4x50176 .f32) : sProp 𝕄 :=
  Flight countersEmb (VT d i) (.dma sem) none (blkOut ![0, 0, 0] (by decide)).view.dmaCredit
    iprop((aOut.view.loc (VT d i) ↦[blkSet (img i) (chan i) j]{fullShare} G) ∗ ∃ ov, ownOut (F := F) d i b ov)

theorem landOut {off : Fin 3 → ℕ} {b j : ℕ} {inb : ∀ a, off a + S1x1x896.size a ≤ S8x4x50176.size a} {inb' : ∀ a, (![b, 0] : Fin 2 → ℕ) a + S1x896.size a ≤ S2x896.size a}
    (hoff : off = ![img i, chan i, 896 * j]) (ov : FVec F S2x896 .f32) (g G : FVec F S8x4x50176 .f32)
    (h : ∀ p < 896, ov (ixRow b p) = G (ixOut (img i) (chan i) (896 * j + p))) :
    ∀ x ∈ blkSet (img i) (chan i) j, (blkOut off inb).view.write (Elt F) g ((slotOut b inb').view.read (Elt F) ov) Finset.univ x = G x := by
  intro x hx
  rw [← out_set (inb := inb) hoff] at hx
  obtain ⟨y, -, rfl⟩ := Finset.mem_map.mp hx
  refine (View.write_emb_of_mem (v := (blkOut off inb).view) _ _ (Finset.mem_univ y)).trans ((cast_eq _ _).trans ?_)
  refine (congrArg ov (show _ = _ from row_emb (inb := inb') y)).trans ?_
  rw [out_emb hoff]
  exact h _ (y 0).isLt

theorem landedOut {off : Fin 3 → ℕ} {b j : ℕ} {inb : ∀ a, off a + S1x1x896.size a ≤ S8x4x50176.size a} {inb' : ∀ a, (![b, 0] : Fin 2 → ℕ) a + S1x896.size a ≤ S2x896.size a}
    (hoff : off = ![img i, chan i, 896 * j]) (ov : FVec F S2x896 .f32) (g G : FVec F S8x4x50176 .f32)
    (h : ∀ p < 896, ov (ixRow b p) = G (ixOut (img i) (chan i) (896 * j + p))) :
    iprop((aOut.view.loc (VT d i) ↦[blkSet (img i) (chan i) j]{fullShare} (blkOut off inb).view.write (Elt F) g ((slotOut b inb').view.read (Elt F) ov) Finset.univ)
        ∗ (bOut.view.loc (VT d i) ↦[(slotOut b inb').view.set]{fullShare} ov))
      ⊢ (iprop((aOut.view.loc (VT d i) ↦[blkSet (img i) (chan i) j]{fullShare} G) ∗ ∃ ov, ownOut (F := F) d i b ov) : sProp 𝕄) := by
  rw [row_set, pointsTo_congr (landOut i hoff ov g G h)]
  iintro ⟨H, Ho⟩
  isplitl [H]; · iexact H
  iexists ov
  iexact Ho

theorem wp_put_out {off : Fin 3 → ℕ} {b j : ℕ} {inb : ∀ a, off a + S1x1x896.size a ≤ S8x4x50176.size a} {inb' : ∀ a, (![b, 0] : Fin 2 → ℕ) a + S1x896.size a ≤ S2x896.size a}
    (hoff : off = ![img i, chan i, 896 * j]) (sem : DmaSem sig) (ov : FVec F S2x896 .f32) (g G : FVec F S8x4x50176 .f32)
    (h : ∀ p < 896, ov (ixRow b p) = G (ixOut (img i) (chan i) (896 * j + p)))
    {s1 s2 s3} {kont : PUnit → Prog (TpuEff nD τ sig (Elt F) Λ₀ (VT d i).2) Unit} {Q : Unit → sProp 𝕄} :
    iprop(ownOut (F := F) d i b ov ∗ semVal (VT d i, .dma sem) 0 ∗ aOut.view.loc (VT d i) ↦[todoSet (img i) (chan i) j]{fullShare} g)
      ⊢ iprop((iprop(putting (F := F) d i sem b j G ∗ aOut.view.loc (VT d i) ↦[todoSet (img i) (chan i) (j + 1)]{fullShare} g)
          -∗ wp frame (wpE (defs₀ (F := F)) 𝒱₀ (VT d i) none) Set.univ (kont ⟨⟩) Q)
        -∗ wp frame (wpE (defs₀ (F := F)) 𝒱₀ (VT d i) none) Set.univ (.op (.enqueueDma (slotOut b inb') (.here (blkOut off inb)) (.dma sem) s1 s2 s3) kont) Q) := by
  rw [todo_split]
  iintro ⟨Ho, Hs, Ha⟩ Hk
  ihave Ha := (pointsTo_union (todo_disj (img i) (chan i) j)).1 $$ Ha
  icases Ha with ⟨Ha, Hr⟩
  ihave Ho := (BIBase.Entails.of_eq (congrArg (fun S => (bOut.view.loc (VT d i) ↦[S]{fullShare} ov : sProp 𝕄)) (row_set (inb := inb')).symm)) $$ Ho
  iapply (wp_dmaLocal countersEmb 𝒱₀ (VT d i) none none ((blkOut off inb).view.dmaCredit) rfl
    (View.dmaCredit_pos _ (by decide)) (Sd := blkSet (img i) (chan i) j) (out_set hoff).subset (q := fullShare) (fs := ov)) $$ [Ha Ho Hs]
  · isplitl [Ho]; · iexact Ho
    isplitl [Ha]; · iexact Ha
    iexact Hs
  iintro Hf
  iapply Hk
  isplitl [Hf]
  · unfold putting
    iapply (Flight_mono countersEmb (VT d i) (landedOut d i hoff ov g G h))
    iexact Hf
  iexact Hr

theorem wp_was_put (O : CellTallies nD τ sig (HIx 1)) (W : Waits sig (HIx 1)) {s : Shape} {e : EltTy} {sp : Space} {src : Memref sig .scVector sp s e} {b j : ℕ}
    {off : Fin 3 → ℕ} {inb : ∀ a, off a + S1x1x896.size a ≤ S8x4x50176.size a} (sem : DmaSem sig) (G : FVec F S8x4x50176 .f32)
    {s1 s2} {kont : PUnit → Prog (TpuEff nD τ sig (Elt F) Λ₀ (VT d i).2) Unit} {Q : Unit → sProp 𝕄} :
    iprop(MayWaits (VT d i) none O ∗ putting (F := F) d i sem b j G ∗ (aOut.view.loc (VT d i) ↦[doneSet (img i) (chan i) j]{fullShare} G) ∗ owing (F := F) d i O W)
      ⊢ iprop((iprop((∃ ov, ownOut (F := F) d i b ov) ∗ semVal (VT d i, .dma sem) 0
            ∗ (aOut.view.loc (VT d i) ↦[doneSet (img i) (chan i) (j + 1)]{fullShare} G) ∗ owing (F := F) d i O W)
          -∗ wp frame (wpE (defs₀ (F := F)) 𝒱₀ (VT d i) none) Set.univ (kont ⟨⟩) Q)
        -∗ wp frame (wpE (defs₀ (F := F)) 𝒱₀ (VT d i) none) Set.univ (.op (.waitDma2 sem src (blkOut off inb) s1 s2) kont) Q) := by
  unfold putting
  rw [done_split]
  iintro ⟨Hmw, Hf, Hd, HO⟩ Hk
  ihave HO := (owing_out d i O W) $$ HO
  icases HO with ⟨%W', %hW, HO⟩
  iapply (wp_waitLocalO countersEmb 𝒱₀ (VT d i) none (none : HIx 1) rfl) $$ [Hf HO Hmw]
  · isplitl [Hf]; · iexact Hf
    isplitl [HO]; · iexact HO
    iapply (MayWaits.elim (.dma sem)) $$ Hmw
  iintro ⟨⟨Ha, Ho⟩, Hs, HO⟩
  iapply Hk
  isplitl [Ho]; · iexact Ho
  isplitl [Hs]; · iexact Hs
  isplitr [HO]
  · iapply (pointsTo_union (done_disj (img i) (chan i) j)).2
    isplitl [Hd] <;> iassumption
  iapply (owing_insert d i O W W' _ hW)
  iexact HO

/-! ## The table -/

theorem landTab {off : Fin 2 → ℕ} {inb : ∀ a, off a + S1x100000.size a ≤ S4x100000.size a} (hoff : off = ![chan i, 0])
    (pts : FVec F S4x100000 .f32) (v : FVec F S100000 .f32) :
    bTab.view.write (Elt F) v ((rowTab off inb).view.read (Elt F) pts) Finset.univ = tabRow pts (chan i) := by
  refine (View.write_whole_univ _ _ _).trans (funext fun y => ?_)
  exact congrArg pts (show _ = _ from tab_emb (inb := inb) hoff y)

theorem wp_table {off : Fin 2 → ℕ} {inb : ∀ a, off a + S1x100000.size a ≤ S4x100000.size a} (hoff : off = ![chan i, 0])
    (O : CellTallies nD τ sig (HIx 1)) (W : Waits sig (HIx 1)) (sem : DmaSem sig) (q : PosShare TreeShare) (pts : FVec F S4x100000 .f32)
    {s1 s2 s3 s4 s5} {kont : PUnit → Prog (TpuEff nD τ sig (Elt F) Λ₀ (VT d i).2) Unit} {Q : Unit → sProp 𝕄} :
    iprop(MayWaits (VT d i) none O ∗ (∃ v, ownTab (F := F) d i v) ∗ semVal (VT d i, .dma sem) 0 ∗ (aTab.view.loc (VT d i) ↦{q} pts) ∗ owing (F := F) d i O W)
      ⊢ iprop((iprop(ownTab (F := F) d i (tabRow pts (chan i)) ∗ semVal (VT d i, .dma sem) 0 ∗ (aTab.view.loc (VT d i) ↦{q} pts)
            ∗ owing (F := F) d i O W)
          -∗ wp frame (wpE (defs₀ (F := F)) 𝒱₀ (VT d i) none) Set.univ (kont ⟨⟩) Q)
        -∗ wp frame (wpE (defs₀ (F := F)) 𝒱₀ (VT d i) none) Set.univ
          (.op (.enqueueDma (rowTab off inb) (.here bTab) (.dma sem) s1 s2 s3) fun _ => .op (.waitDma2 sem (rowTab off inb) bTab s4 s5) kont) Q) := by
  iintro ⟨Hmw, ⟨%v, Hb⟩, Hs, Ha, HO⟩ Hk
  ihave HO := (owing_out d i O W) $$ HO
  icases HO with ⟨%W', %hW, HO⟩
  ihave Ha := (pointsTo_split_subset (Finset.subset_univ (rowTab off inb).view.set)).1 $$ Ha
  icases Ha with ⟨Ha, Hr⟩
  iapply (wp_dmaLocal countersEmb 𝒱₀ (VT d i) none none (bTab.view.dmaCredit) rfl
    (View.dmaCredit_pos _ (by decide)) (Sd := Finset.univ) (Finset.subset_univ _)) $$ [Ha Hb Hs]
  · isplitl [Ha]; · iexact Ha
    isplitl [Hb]; · iexact Hb
    iexact Hs
  iintro Hf
  iapply (wp_waitLocalO countersEmb 𝒱₀ (VT d i) none (none : HIx 1) rfl) $$ [Hf HO Hmw]
  · isplitl [Hf]; · iexact Hf
    isplitl [HO]; · iexact HO
    iapply (MayWaits.elim (.dma sem)) $$ Hmw
  iintro ⟨⟨Hb, Ha⟩, Hs, HO⟩
  iapply Hk
  isplitl [Hb]
  · iapply (BIBase.Entails.of_eq (congrArg (fun f => (bTab.view.loc (VT d i) ↦{fullShare} f : sProp 𝕄)) (landTab i (inb := inb) hoff pts v)))
    iexact Hb
  isplitl [Hs]; · iexact Hs
  isplitr [HO]
  · iapply (pointsTo_split_subset (Finset.subset_univ (rowTab off inb).view.set)).2
    isplitl [Ha] <;> iassumption
  iapply (owing_insert d i O W W' _ hW)
  iexact HO

end Cert.Proof.Render

end
-- ==== Proof.Phases.lean ====
/- Half a trip of the outer loop: one block, from its arrival in a slot to its pixels' departure and the start of the
   slot's next copies. Both slots run it. -/
module

public import proofs.«01_k».proof.Proof.Copies

@[expose] public section

noncomputable section

namespace Cert.Proof.Render

open Cert.KernelIdeal Cert.KernelIdeal.Gen

open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## The inner loops -/

/-- What a loop over a block's groups takes, and what it leaves: the pixels of row `b`, all painted. -/
abbrev toPaint (fv : IVec S2x8x896 32) (av : FVec F S2x8x896 .f32) (tv : FVec F S100000 .f32) (b : ℕ) : sProp 𝕄 :=
  iprop((ownFrag (F := F) d i b fv ∗ ownAlpha d i b av ∗ ownTab d i tv) ∗ ∃ ov, ownOut (F := F) d i b ov)
abbrev allPainted (fv : IVec S2x8x896 32) (av : FVec F S2x8x896 .f32) (tv : FVec F S100000 .f32) (b : ℕ) : sProp 𝕄 :=
  iprop((ownFrag (F := F) d i b fv ∗ ownAlpha d i b av ∗ ownTab d i tv) ∗ ∃ ov, ownOut (F := F) d i b (painted fv av tv b 896 ov))

theorem painted_zero (fv : IVec S2x8x896 32) (av : FVec F S2x8x896 .f32) (tv : FVec F S100000 .f32) (b : ℕ) (ov : FVec F S2x896 .f32) :
    painted fv av tv b 0 ov = ov := funext fun x => if_neg fun h => absurd h.2 (Nat.not_lt_zero _)

theorem wp_loop0 (t : Fin k0_t1_loop.trips) (fv : IVec S2x8x896 32) (av : FVec F S2x8x896 .f32) (tv : FVec F S100000 .f32) (hfv : ∀ x, (fv x).toNat < 100000) :
    toPaint d i fv av tv 0 ⊢ wp frame (wpE (defs₀ (F := F)) 𝒱₀ (VT d i) none) Set.univ (Scf.Loop.for k0_t2_loop k0_t2_ok ⟨⟩ (body0 i t)) fun _ => allPainted d i fv av tv 0 := by
  iintro ⟨H, ⟨%ov, Ho⟩⟩
  iapply (Scf.wp_for frame (wpE (defs₀ (F := F)) 𝒱₀ (VT d i) none) Set.univ k0_t2_loop.lb k0_t2_loop.ub k0_t2_loop.st k0_t2_ok ⟨⟩ (body0 i t)
    (fun g _ => grp d i fv av tv ov 0 g) (fun g _ => wp_body0 d i t g fv av tv ov hfv))
  isplitl [H Ho]
  · isplitl [H]; · iexact H
    rw [Nat.mul_zero, painted_zero]; iexact Ho
  iintro %_ ⟨H, Ho⟩
  isplitl [H]; · iexact H
  iexists ov
  rw [show 16 * Scf.trips k0_t2_loop.lb k0_t2_loop.ub k0_t2_loop.st = 896 from congrArg (16 * ·) trips2]
  iexact Ho

theorem wp_loop1 (fv : IVec S2x8x896 32) (av : FVec F S2x8x896 .f32) (tv : FVec F S100000 .f32) (hfv : ∀ x, (fv x).toNat < 100000) :
    toPaint d i fv av tv 1 ⊢ wp frame (wpE (defs₀ (F := F)) 𝒱₀ (VT d i) none) Set.univ (Scf.Loop.for k0_t3_loop k0_t3_ok ⟨⟩ (body1 i)) fun _ => allPainted d i fv av tv 1 := by
  iintro ⟨H, ⟨%ov, Ho⟩⟩
  iapply (Scf.wp_for frame (wpE (defs₀ (F := F)) 𝒱₀ (VT d i) none) Set.univ k0_t3_loop.lb k0_t3_loop.ub k0_t3_loop.st k0_t3_ok ⟨⟩ (body1 i)
    (fun g _ => grp d i fv av tv ov 1 g) (fun g _ => wp_body1 d i g fv av tv ov hfv))
  isplitl [H Ho]
  · isplitl [H]; · iexact H
    rw [Nat.mul_zero, painted_zero]; iexact Ho
  iintro %_ ⟨H, Ho⟩
  isplitl [H]; · iexact H
  iexists ov
  rw [show 16 * Scf.trips k0_t3_loop.lb k0_t3_loop.ub k0_t3_loop.st = 896 from congrArg (16 * ·) trips3]
  iexact Ho

/-! ## A slot's copies between two blocks -/

/-- Slot `b`'s input buffers, at rest, with their semaphores at zero and the shares of the sources they copy from. -/
def restIn (b : ℕ) (sF sA : DmaSem sig) (q : PosShare TreeShare) (v0 : IVec S8x8x50176 32) (v1 : FVec F S8x8x50176 .f32) : sProp 𝕄 :=
  iprop(((∃ v, ownFrag (F := F) d i b v) ∗ semVal (VT d i, .dma sF) 0 ∗ aFrag.view.loc (VT d i) ↦{q} v0)
    ∗ ((∃ v, ownAlpha (F := F) d i b v) ∗ semVal (VT d i, .dma sA) 0 ∗ aAlpha.view.loc (VT d i) ↦{q} v1))

/-- Slot `b`'s input buffers, before block `j` is rendered from them: the block on its way, if there is one. -/
def slotIn (b j : ℕ) (sF sA : DmaSem sig) (q : PosShare TreeShare) (v0 : IVec S8x8x50176 32) (v1 : FVec F S8x8x50176 .f32) : sProp 𝕄 :=
  if j < 56 then iprop(gettingFrag (F := F) d i sF b j q v0 ∗ gettingAlpha d i sA b j q v1) else restIn d i b sF sA q v0 v1

/-- Slot `b`'s pixel row before block `j` is rendered into it: block `j - 2` on its way out, if there is one. -/
def slotOut' (b j : ℕ) (sO : DmaSem sig) (G : FVec F S8x4x50176 .f32) : sProp 𝕄 :=
  if 2 ≤ j then putting d i sO b (j - 2) G else iprop((∃ ov, ownOut (F := F) d i b ov) ∗ semVal (VT d i, .dma sO) 0)

/-- The tile's pixels of the result written before block `j`, and those left from block `j` on. -/
abbrev written (j : ℕ) (G : FVec F S8x4x50176 .f32) : sProp 𝕄 := aOut.view.loc (VT d i) ↦[doneSet (img i) (chan i) j]{fullShare} G
abbrev unwritten (j : ℕ) (g : FVec F S8x4x50176 .f32) : sProp 𝕄 := aOut.view.loc (VT d i) ↦[todoSet (img i) (chan i) j]{fullShare} g

/-- The pixel row freed: the wait for its last block's departure, from the slot's second block on. -/
theorem wp_free {c : Prop} [Decidable c] {b j : ℕ} (hc : c ↔ 2 ≤ j) (O : CellTallies nD τ sig (HIx 1)) (W : Waits sig (HIx 1))
    {s : Shape} {e : EltTy} {sp : Space} {src : Memref sig .scVector sp s e}
    {off : Fin 3 → ℕ} {inb : c → ∀ a, off a + S1x1x896.size a ≤ S8x4x50176.size a} (sem : DmaSem sig) (G : FVec F S8x4x50176 .f32)
    {s1 : c → src.view.WordExact} {s2 : ∀ h : c, (blkOut off (inb h)).view.WordExact} {P : Prog (TpuEff nD τ sig (Elt F) Λ₀ (VT d i).2) Unit} {Q : Unit → sProp 𝕄} :
    iprop(MayWaits (VT d i) none O ∗ slotOut' d i b j sem G ∗ written d i (j - 2) G ∗ owing (F := F) d i O W)
      ⊢ iprop((iprop(((∃ ov, ownOut (F := F) d i b ov) ∗ semVal (VT d i, .dma sem) 0) ∗ written d i (j - 1) G ∗ owing (F := F) d i O W)
          -∗ wp frame (wpE (defs₀ (F := F)) 𝒱₀ (VT d i) none) Set.univ P Q)
        -∗ wp frame (wpE (defs₀ (F := F)) 𝒱₀ (VT d i) none) Set.univ
          (if h : c then .op (.waitDma2 sem src (blkOut off (inb h)) (s1 h) (s2 h)) fun _ => P else P) Q) := by
  unfold slotOut'
  by_cases h : c
  · have hj := hc.mp h
    rw [dif_pos h, if_pos hj, show j - 1 = j - 2 + 1 by omega]
    iintro ⟨Hmw, Hs, Hw, HO⟩ Hk
    iapply (wp_was_put d i O W (b := b) (j := j - 2) sem G) $$ [Hmw Hs Hw HO]
    · isplitl [Hmw]; · iexact Hmw
      isplitl [Hs]; · iexact Hs
      isplitl [Hw] <;> iassumption
    iintro ⟨Ho, Hs, Hw, HO⟩
    iapply Hk
    isplitl [Ho Hs]
    · isplitl [Ho] <;> iassumption
    isplitl [Hw] <;> iassumption
  · have hj := mt hc.mpr h
    rw [dif_neg h, if_neg hj, show j - 1 = j - 2 by omega]
    iintro ⟨Hmw, Hs, Hw, HO⟩ Hk
    iapply Hk
    isplitl [Hs]; · iexact Hs
    isplitl [Hw] <;> iassumption

/-- The slot's next copies in, if it has a next block. -/
theorem wp_refill {c : Prop} [Decidable c] {b j : ℕ} (hc : c ↔ j < 56) {off : Fin 3 → ℕ} (hoff : c → off = ![img i, 0, 896 * j])
    {inb : c → ∀ a, off a + S1x8x896.size a ≤ S8x8x50176.size a} {inb' : ∀ a, (![b, 0, 0] : Fin 3 → ℕ) a + S1x8x896.size a ≤ S2x8x896.size a}
    (sF sA : DmaSem sig) (q : PosShare TreeShare) (v0 : IVec S8x8x50176 32) (v1 : FVec F S8x8x50176 .f32)
    {s1 : ∀ h : c, (blkFrag off (inb h)).view.WordExact} {s2 : c → _} {s3 : c → _} {s4 : ∀ h : c, (blkAlpha off (inb h)).view.WordExact} {s5 : c → _} {s6 : c → _}
    {P : Prog (TpuEff nD τ sig (Elt F) Λ₀ (VT d i).2) Unit} {Q : Unit → sProp 𝕄} :
    restIn d i b sF sA q v0 v1
      ⊢ iprop((slotIn d i b j sF sA q v0 v1 -∗ wp frame (wpE (defs₀ (F := F)) 𝒱₀ (VT d i) none) Set.univ P Q)
        -∗ wp frame (wpE (defs₀ (F := F)) 𝒱₀ (VT d i) none) Set.univ
          (if h : c then .op (.enqueueDma (blkFrag off (inb h)) (.here (slotFrag b inb')) (.dma sF) (s1 h) (s2 h) (s3 h)) fun _ =>
              .op (.enqueueDma (blkAlpha off (inb h)) (.here (slotAlpha b inb')) (.dma sA) (s4 h) (s5 h) (s6 h)) fun _ => P else P) Q) := by
  unfold slotIn
  by_cases h : c
  · have hj := hc.mp h
    rw [dif_pos h, if_pos hj]
    unfold restIn
    iintro ⟨Hf, Ha⟩ Hk
    iapply (wp_getFrag d i (hoff h) sF q v0) $$ Hf
    iintro Hf
    iapply (wp_getAlpha d i (hoff h) sA q v1) $$ Ha
    iintro Ha
    iapply Hk
    isplitl [Hf] <;> iassumption
  · rw [dif_neg h, if_neg (mt hc.mpr h)]
    iintro H Hk
    iapply Hk
    iexact H

/-! ## Half a trip -/

/-- Slot `b` with block `j` arrived in its buffers and its pixel row free. -/
def arrived (b j : ℕ) (sF sA sO : DmaSem sig) (q : PosShare TreeShare) (v0 : IVec S8x8x50176 32) (v1 : FVec F S8x8x50176 .f32) : sProp 𝕄 :=
  iprop((ownFrag (F := F) d i b (block v0 (img i) j) ∗ semVal (VT d i, .dma sF) 0 ∗ aFrag.view.loc (VT d i) ↦{q} v0)
    ∗ (ownAlpha (F := F) d i b (block v1 (img i) j) ∗ semVal (VT d i, .dma sA) 0 ∗ aAlpha.view.loc (VT d i) ↦{q} v1)
    ∗ ((∃ ov, ownOut (F := F) d i b ov) ∗ semVal (VT d i, .dma sO) 0))

/-- A half trip's first part: the waits for block `j` and for the row's last block. -/
theorem wp_arrive {b j : ℕ} (hj : j < 56) (sF sA sO : DmaSem sig) (q : PosShare TreeShare) (v0 : IVec S8x8x50176 32) (v1 : FVec F S8x8x50176 .f32)
    (G : FVec F S8x4x50176 .f32) (O : CellTallies nD τ sig (HIx 1)) (W : Waits sig (HIx 1)) {c : Prop} [Decidable c] (hc : c ↔ 2 ≤ j) {off : Fin 3 → ℕ}
    {inb : c → ∀ a, off a + S1x1x896.size a ≤ S8x4x50176.size a} {inb₄ : ∀ a, (![b, 0, 0] : Fin 3 → ℕ) a + S1x8x896.size a ≤ S2x8x896.size a}
    {srcF : Memref sig .scVector .hbm S8x896 .i32} {srcA : Memref sig .scVector .hbm S8x896 .f32} {srcO : Memref sig .scVector .vmem S896 .f32}
    {a1 : srcF.view.WordExact} {a2 : (slotFrag b inb₄).view.WordExact} {a3 : srcA.view.WordExact} {a4 : (slotAlpha b inb₄).view.WordExact}
    {a5 : c → srcO.view.WordExact} {a6 : ∀ h : c, (blkOut off (inb h)).view.WordExact}
    {P : Prog (TpuEff nD τ sig (Elt F) Λ₀ (VT d i).2) Unit} {Q : Unit → sProp 𝕄} :
    iprop(MayWaits (VT d i) none O ∗ slotIn d i b j sF sA q v0 v1 ∗ slotOut' d i b j sO G ∗ written d i (j - 2) G ∗ owing (F := F) d i O W)
      ⊢ iprop((iprop(arrived d i b j sF sA sO q v0 v1 ∗ written d i (j - 1) G ∗ owing (F := F) d i O W)
          -∗ wp frame (wpE (defs₀ (F := F)) 𝒱₀ (VT d i) none) Set.univ P Q)
        -∗ wp frame (wpE (defs₀ (F := F)) 𝒱₀ (VT d i) none) Set.univ
          (.op (.waitDma2 sF srcF (slotFrag b inb₄) a1 a2) fun _ => .op (.waitDma2 sA srcA (slotAlpha b inb₄) a3 a4) fun _ =>
            if h : c then .op (.waitDma2 sO srcO (blkOut off (inb h)) (a5 h) (a6 h)) fun _ => P else P) Q) := by
  rw [show slotIn d i b j sF sA q v0 v1 = iprop(gettingFrag (F := F) d i sF b j q v0 ∗ gettingAlpha d i sA b j q v1) from if_pos hj]
  unfold arrived
  iintro ⟨#Hmw, ⟨Hf, Ha⟩, Hs, Hw, HO⟩ Hk
  iapply (wp_gotFrag d i O W sF q v0) $$ [Hf HO]
  · isplitr; · iexact Hmw
    isplitl [Hf] <;> iassumption
  iintro ⟨Hf, HO⟩
  iapply (wp_gotAlpha d i O W sA q v1) $$ [Ha HO]
  · isplitr; · iexact Hmw
    isplitl [Ha] <;> iassumption
  iintro ⟨Ha, HO⟩
  iapply (wp_free d i hc O W sO G) $$ [Hs Hw HO]
  · isplitr; · iexact Hmw
    isplitl [Hs]; · iexact Hs
    isplitl [Hw] <;> iassumption
  iintro ⟨Hs, Hw, HO⟩
  iapply Hk
  isplitl [Hf Ha Hs]
  · isplitl [Hf]; · iexact Hf
    isplitl [Ha] <;> iassumption
  · isplitl [Hw] <;> iassumption

/-- A half trip's second part: block `j` rendered by the loop `L`, its departure, and the slot's next copies in. -/
theorem wp_depart {b j : ℕ} (hb : b < 2) (hj : j < 56) (sF sA sO : DmaSem sig) (q : PosShare TreeShare) (v0 : IVec S8x8x50176 32) (v1 : FVec F S8x8x50176 .f32)
    (pts : FVec F S4x100000 .f32) (g : FVec F S8x4x50176 .f32) (hr : ∀ x, (v0 x).toNat < 100000)
    {L : Prog (TpuEff nD τ sig (Elt F) Λ₀ (VT d i).2) Unit}
    (hL : ∀ (fv : IVec S2x8x896 32) (av : FVec F S2x8x896 .f32) (tv : FVec F S100000 .f32), (∀ x, (fv x).toNat < 100000) →
      toPaint d i fv av tv b ⊢ wp frame (wpE (defs₀ (F := F)) 𝒱₀ (VT d i) none) Set.univ L fun _ => allPainted d i fv av tv b)
    {c : Prop} [Decidable c] (hc : c ↔ j + 2 < 56)
    {off₂ off₃ : Fin 3 → ℕ} (ho₂ : off₂ = ![img i, chan i, 896 * j]) (ho₃ : c → off₃ = ![img i, 0, 896 * (j + 2)])
    {inb₂ : ∀ a, off₂ a + S1x1x896.size a ≤ S8x4x50176.size a}
    {inb₃ : c → ∀ a, off₃ a + S1x8x896.size a ≤ S8x8x50176.size a} {inb₄ : ∀ a, (![b, 0, 0] : Fin 3 → ℕ) a + S1x8x896.size a ≤ S2x8x896.size a}
    {inb₅ : ∀ a, (![b, 0] : Fin 2 → ℕ) a + S1x896.size a ≤ S2x896.size a}
    {a7 : (slotOut b inb₅).view.WordExact} {a8 : (blkOut off₂ inb₂).view.WordExact} {a9 : _}
    {s1 : ∀ h : c, (blkFrag off₃ (inb₃ h)).view.WordExact} {s2 : c → (slotFrag b inb₄).view.WordExact} {s3 : c → _}
    {s4 : ∀ h : c, (blkAlpha off₃ (inb₃ h)).view.WordExact} {s5 : c → (slotAlpha b inb₄).view.WordExact} {s6 : c → _}
    {P : Prog (TpuEff nD τ sig (Elt F) Λ₀ (VT d i).2) Unit} {Q : Unit → sProp 𝕄} :
    iprop(arrived d i b j sF sA sO q v0 v1 ∗ unwritten d i j g ∗ ownTab (F := F) d i (tabRow pts (chan i)))
      ⊢ iprop((iprop(slotIn d i b (j + 2) sF sA q v0 v1 ∗ slotOut' d i b (j + 2) sO (rendered v0 v1 pts)
          ∗ unwritten d i (j + 1) g ∗ ownTab (F := F) d i (tabRow pts (chan i)))
          -∗ wp frame (wpE (defs₀ (F := F)) 𝒱₀ (VT d i) none) Set.univ P Q)
        -∗ wp frame (wpE (defs₀ (F := F)) 𝒱₀ (VT d i) none) Set.univ
          (L >>= fun _ => .op (.enqueueDma (slotOut b inb₅) (.here (blkOut off₂ inb₂)) (.dma sO) a7 a8 a9) fun _ =>
            if h : c then .op (.enqueueDma (blkFrag off₃ (inb₃ h)) (.here (slotFrag b inb₄)) (.dma sF) (s1 h) (s2 h) (s3 h)) fun _ =>
              .op (.enqueueDma (blkAlpha off₃ (inb₃ h)) (.here (slotAlpha b inb₄)) (.dma sA) (s4 h) (s5 h) (s6 h)) fun _ => P else P) Q) := by
  rw [show slotOut' d i b (j + 2) sO (rendered v0 v1 pts) = putting d i sO b j (rendered v0 v1 pts) from if_pos (by omega), wp_bind]
  unfold arrived
  iintro ⟨⟨⟨Hf, Hf'⟩, ⟨Ha, Ha'⟩, ⟨Ho, Hs⟩⟩, Hu, Ht⟩ Hk
  iapply ((hL (block v0 (img i) j) (block v1 (img i) j) (tabRow pts (chan i)) fun x => hr _).trans (wp_wand frame _ _)) $$ [Hf Ha Ht Ho]
  · isplitr [Ho]
    · isplitl [Hf]; · iexact Hf
      isplitl [Ha] <;> iassumption
    · iexact Ho
  iintro %_ ⟨⟨Hf, Ha, Ht⟩, ⟨%ov, Ho⟩⟩
  iapply (wp_put_out d i ho₂ sO (painted (block v0 (img i) j) (block v1 (img i) j) (tabRow pts (chan i)) b 896 ov) g (rendered v0 v1 pts)
    fun p hp => painted_block v0 v1 pts ov (img_lt i) (chan_lt i) hb hj hp hr) $$ [Ho Hs Hu]
  · isplitl [Ho]; · iexact Ho
    isplitl [Hs] <;> iassumption
  iintro ⟨Hs, Hu⟩
  iapply (wp_refill d i hc ho₃ sF sA q v0 v1) $$ [Hf Hf' Ha Ha']
  · unfold restIn
    isplitl [Hf Hf']
    · isplitl [Hf]
      · iexists _; iexact Hf
      · iexact Hf'
    · isplitl [Ha]
      · iexists _; iexact Ha
      · iexact Ha'
  iintro Hin
  iapply Hk
  isplitl [Hin]; · iexact Hin
  isplitl [Hs]; · iexact Hs
  isplitl [Hu] <;> iassumption

end Cert.Proof.Render

end
-- ==== Proof.Tile.lean ====
/- One tile's run: a trip of the outer loop as two half trips, the loop, and the whole body from the table's copy in to
   the last two blocks' departures. -/
module

public import proofs.«01_k».proof.Proof.Phases

@[expose] public section

noncomputable section

namespace Cert.Proof.Render

open Cert.KernelIdeal Cert.KernelIdeal.Gen

open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI.BIBase
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## A trip of the outer loop -/

/-- The outer loop's trip at the buffers and semaphores the body table passes. -/
abbrev trip := k0_t1_body (F := F) i aFrag (Memref.isWhole_whole _) aAlpha (Memref.isWhole_whole _) aTab (Memref.isWhole_whole _) aOut (Memref.isWhole_whole _)
  bTab (Memref.isWhole_whole _) bFrag (Memref.isWhole_whole _) bAlpha (Memref.isWhole_whole _) bOut (Memref.isWhole_whole _)
  cc0_scratch4 cc0_scratch5 cc0_scratch6 cc0_scratch7 cc0_scratch8 cc0_scratch9 cc0_scoped0

/-- What the tile holds before trip `t` of the outer loop. -/
def between (q₀ q₁ : PosShare TreeShare) (v0 : IVec S8x8x50176 32) (v1 : FVec F S8x8x50176 .f32) (pts : FVec F S4x100000 .f32) (g : FVec F S8x4x50176 .f32)
    (O : CellTallies nD τ sig (HIx 1)) (W : Waits sig (HIx 1)) (t : ℕ) : sProp 𝕄 :=
  iprop(slotIn d i 0 (2 * t) cc0_scratch4.sem cc0_scratch6.sem q₀ v0 v1 ∗ slotIn d i 1 (2 * t + 1) cc0_scratch5.sem cc0_scratch7.sem q₁ v0 v1
    ∗ slotOut' d i 0 (2 * t) cc0_scratch8.sem (rendered v0 v1 pts) ∗ slotOut' d i 1 (2 * t + 1) cc0_scratch9.sem (rendered v0 v1 pts)
    ∗ written d i (2 * t - 2) (rendered v0 v1 pts) ∗ unwritten d i (2 * t) g
    ∗ ownTab (F := F) d i (tabRow pts (chan i)) ∗ owing (F := F) d i O W)

/-- A continuation of a branch is a continuation of its two sides. -/
theorem dite_bind {p : Proc τ} {α β : Type} {c : Prop} [Decidable c] (a : c → Prog (TpuEff nD τ sig (Elt F) Λ₀ p) α) (b : ¬c → Prog (TpuEff nD τ sig (Elt F) Λ₀ p) α)
    (k : α → Prog (TpuEff nD τ sig (Elt F) Λ₀ p) β) : ((if h : c then a h else b h) >>= k) = if h : c then a h >>= k else b h >>= k := by
  split <;> rfl

theorem wp_trip (q₀ q₁ : PosShare TreeShare) (v0 : IVec S8x8x50176 32) (v1 : FVec F S8x8x50176 .f32) (pts : FVec F S4x100000 .f32) (g : FVec F S8x4x50176 .f32)
    (hr : ∀ x, (v0 x).toNat < 100000) (O : CellTallies nD τ sig (HIx 1)) (W : Waits sig (HIx 1)) (t : Fin k0_t1_loop.trips) (u : Unit) :
    iprop(MayWaits (VT d i) none O ∗ between d i q₀ q₁ v0 v1 pts g O W t.val)
      ⊢ wp frame (wpE (defs₀ (F := F)) 𝒱₀ (VT d i) none) Set.univ (trip (F := F) i t u)
        fun _ => iprop(MayWaits (VT d i) none O ∗ between d i q₀ q₁ v0 v1 pts g O W (t.val + 1)) := by
  unfold trip k0_t1_body
  simp only [k0_part7_eq_skeleton, k0_part8_eq_skeleton]
  unfold k0_part7_skel k0_part8_skel
  simp only [Prog.lift, Prog.bind_op, Prog.bind_ret, Prog.pure_eq_ret, bind_assoc, dite_bind]
  have ht : t.val < 28 := trips1 ▸ t.isLt
  unfold between
  rw [show 2 * (t.val + 1) = 2 * t.val + 2 from rfl, show 2 * t.val + 2 + 1 = 2 * t.val + 1 + 2 from rfl, show 2 * t.val + 2 - 2 = 2 * t.val + 1 - 1 by omega,
    show 2 * t.val + 2 = 2 * t.val + 1 + 1 from rfl]
  iintro ⟨#Hmw, Hi0, Hi1, Ho0, Ho1, Hw, Hu, Ht, HO⟩
  iapply (wp_arrive d i (b := 0) (j := 2 * t.val) (by omega) cc0_scratch4.sem cc0_scratch6.sem cc0_scratch8.sem q₀ v0 v1 (rendered v0 v1 pts) O W
    (by rw [cond1_iff]; omega)) $$ [Hi0 Ho0 Hw HO]
  · isplitr; · iexact Hmw
    isplitl [Hi0]; · iexact Hi0
    isplitl [Ho0]; · iexact Ho0
    isplitl [Hw] <;> iassumption
  iintro ⟨Ha, Hw, HO⟩
  iapply (wp_depart d i (b := 0) (j := 2 * t.val) (by omega) (by omega) cc0_scratch4.sem cc0_scratch6.sem cc0_scratch8.sem q₀ v0 v1 pts g hr
    (wp_loop0 d i t) (by rw [cond2_iff]; omega) (off15_eq0 i t) (off16_eq i t)) $$ [Ha Hu Ht]
  · isplitl [Ha]; · iexact Ha
    isplitl [Hu] <;> iassumption
  iintro ⟨Hi0, Ho0, Hu, Ht⟩
  iapply (wp_arrive d i (b := 1) (j := 2 * t.val + 1) (by omega) cc0_scratch5.sem cc0_scratch7.sem cc0_scratch9.sem q₁ v0 v1 (rendered v0 v1 pts) O W
    (by rw [cond3_iff]; omega)) $$ [Hi1 Ho1 Hw HO]
  · isplitr; · iexact Hmw
    isplitl [Hi1]; · iexact Hi1
    isplitl [Ho1]; · iexact Ho1
    isplitl [Hw]; · iexact Hw
    iexact HO
  iintro ⟨Ha, Hw, HO⟩
  iapply (wp_depart d i (b := 1) (j := 2 * t.val + 1) (by omega) (by omega) cc0_scratch5.sem cc0_scratch7.sem cc0_scratch9.sem q₁ v0 v1 pts g hr
    (wp_loop1 d i) (by rw [cond4_iff]; omega) (off15_eq1 i t) (off27_eq i t)) $$ [Ha Hu Ht]
  · isplitl [Ha]; · iexact Ha
    isplitl [Hu] <;> iassumption
  iintro ⟨Hi1, Ho1, Hu, Ht⟩
  rw [wp_ret]; imodintro
  isplitr; · iexact Hmw
  isplitl [Hi0]; · iexact Hi0
  isplitl [Hi1]; · iexact Hi1
  isplitl [Ho0]; · iexact Ho0
  isplitl [Ho1]; · iexact Ho1
  isplitl [Hw]; · iexact Hw
  isplitl [Hu]; · iexact Hu
  isplitl [Ht] <;> iassumption

/-! ## The state before the first trip, and after the last -/

theorem between_zero (q₀ q₁ : PosShare TreeShare) (v0 : IVec S8x8x50176 32) (v1 : FVec F S8x8x50176 .f32) (pts : FVec F S4x100000 .f32) (g : FVec F S8x4x50176 .f32)
    (O : CellTallies nD τ sig (HIx 1)) (W : Waits sig (HIx 1)) :
    between d i q₀ q₁ v0 v1 pts g O W 0
      = iprop((gettingFrag (F := F) d i cc0_scratch4.sem 0 0 q₀ v0 ∗ gettingAlpha d i cc0_scratch6.sem 0 0 q₀ v1)
        ∗ (gettingFrag (F := F) d i cc0_scratch5.sem 1 1 q₁ v0 ∗ gettingAlpha d i cc0_scratch7.sem 1 1 q₁ v1)
        ∗ ((∃ ov, ownOut (F := F) d i 0 ov) ∗ semVal (VT d i, .dma cc0_scratch8.sem) 0)
        ∗ ((∃ ov, ownOut (F := F) d i 1 ov) ∗ semVal (VT d i, .dma cc0_scratch9.sem) 0)
        ∗ written d i 0 (rendered v0 v1 pts) ∗ unwritten d i 0 g
        ∗ ownTab (F := F) d i (tabRow pts (chan i)) ∗ owing (F := F) d i O W) := rfl

theorem between_last (q₀ q₁ : PosShare TreeShare) (v0 : IVec S8x8x50176 32) (v1 : FVec F S8x8x50176 .f32) (pts : FVec F S4x100000 .f32) (g : FVec F S8x4x50176 .f32)
    (O : CellTallies nD τ sig (HIx 1)) (W : Waits sig (HIx 1)) :
    between d i q₀ q₁ v0 v1 pts g O W 28
      = iprop(restIn d i 0 cc0_scratch4.sem cc0_scratch6.sem q₀ v0 v1 ∗ restIn d i 1 cc0_scratch5.sem cc0_scratch7.sem q₁ v0 v1
        ∗ putting d i cc0_scratch8.sem 0 54 (rendered v0 v1 pts) ∗ putting d i cc0_scratch9.sem 1 55 (rendered v0 v1 pts)
        ∗ written d i 54 (rendered v0 v1 pts) ∗ unwritten d i 56 g
        ∗ ownTab (F := F) d i (tabRow pts (chan i)) ∗ owing (F := F) d i O W) := rfl

theorem done_zero (n c : ℕ) : doneSet n c 0 = ∅ := by ext x; simp [doneSet]
theorem done_all (n c : ℕ) : doneSet n c 56 = todoSet n c 0 := by
  ext x
  have h : (x 2).val < 50176 := (x 2).isLt
  simp only [doneSet, todoSet, Finset.mem_filter, Finset.mem_univ, true_and]
  omega

theorem between_trips (q₀ q₁ : PosShare TreeShare) (v0 : IVec S8x8x50176 32) (v1 : FVec F S8x8x50176 .f32) (pts : FVec F S4x100000 .f32) (g : FVec F S8x4x50176 .f32)
    (O : CellTallies nD τ sig (HIx 1)) (W : Waits sig (HIx 1)) :
    between d i q₀ q₁ v0 v1 pts g O W (Scf.trips k0_t1_loop.lb k0_t1_loop.ub k0_t1_loop.st)
      = iprop((((∃ v, ownFrag (F := F) d i 0 v) ∗ semVal (VT d i, .dma cc0_scratch4.sem) 0 ∗ aFrag.view.loc (VT d i) ↦{q₀} v0)
          ∗ ((∃ v, ownAlpha (F := F) d i 0 v) ∗ semVal (VT d i, .dma cc0_scratch6.sem) 0 ∗ aAlpha.view.loc (VT d i) ↦{q₀} v1))
        ∗ (((∃ v, ownFrag (F := F) d i 1 v) ∗ semVal (VT d i, .dma cc0_scratch5.sem) 0 ∗ aFrag.view.loc (VT d i) ↦{q₁} v0)
          ∗ ((∃ v, ownAlpha (F := F) d i 1 v) ∗ semVal (VT d i, .dma cc0_scratch7.sem) 0 ∗ aAlpha.view.loc (VT d i) ↦{q₁} v1))
        ∗ putting d i cc0_scratch8.sem 0 54 (rendered v0 v1 pts) ∗ putting d i cc0_scratch9.sem 1 55 (rendered v0 v1 pts)
        ∗ written d i 54 (rendered v0 v1 pts) ∗ unwritten d i 56 g
        ∗ ownTab (F := F) d i (tabRow pts (chan i)) ∗ owing (F := F) d i O W) :=
  (congrArg (between d i q₀ q₁ v0 v1 pts g O W) trips1).trans (between_last d i q₀ q₁ v0 v1 pts g O W)

theorem written_zero (G : FVec F S8x4x50176 .f32) : (written d i 0 G : sProp 𝕄) = iprop(emp) := by
  unfold written; rw [done_zero, pointsTo_empty]
theorem written_all (G : FVec F S8x4x50176 .f32) : (written d i 56 G : sProp 𝕄) = unwritten d i 0 G := by
  unfold written unwritten; rw [done_all]

/-- A share of an array, dealt to the two slots. -/
abbrev slotShare (q : PosShare TreeShare) (b : Fin 2) : PosShare TreeShare := dealOf q Finset.univ b

theorem share_slots {ℓ : Loc nD τ sig} (S : Finset (Idx ℓ)) (q : PosShare TreeShare) (f : Buf (Elt F) ℓ) :
    (ℓ ↦[S]{q} f : sProp 𝕄) = iprop((ℓ ↦[S]{slotShare q 0} f) ∗ ℓ ↦[S]{slotShare q 1} f) := by
  exact (pointsTo_deal (Finset.univ : Finset (Fin 2)) Finset.univ_nonempty q).trans (bigSep_fin_two _)

theorem half_union : (Finset.univ : Finset S2x8x896.Idx) = half 0 ∪ half 1 := by
  ext x
  have h : (x 0).val < 2 := (x 0).isLt
  simp only [half, Finset.mem_union, Finset.mem_filter, Finset.mem_univ, true_and, true_iff]
  omega
theorem half_disj : Disjoint (half 0) (half 1) := Finset.disjoint_filter.mpr fun x _ h h' => absurd (h.symm.trans h') (by decide)
theorem halfRow_union : (Finset.univ : Finset S2x896.Idx) = halfRow 0 ∪ halfRow 1 := by
  ext x
  have h : (x 0).val < 2 := (x 0).isLt
  simp only [halfRow, Finset.mem_union, Finset.mem_filter, Finset.mem_univ, true_and, true_iff]
  omega
theorem halfRow_disj : Disjoint (halfRow 0) (halfRow 1) := Finset.disjoint_filter.mpr fun x _ h h' => absurd (h.symm.trans h') (by decide)

/-- A buffer held in two disjoint parts that make it up is held whole. -/
theorem parts_join (ℓ : Loc nD τ sig) {A B : Finset (Idx ℓ)} (hU : (Finset.univ : Finset (Idx ℓ)) = A ∪ B) (hD : Disjoint A B) :
    iprop((∃ f, ℓ ↦[A]{fullShare} f) ∗ (∃ f, ℓ ↦[B]{fullShare} f)) ⊢ (iprop(∃ f, ℓ ↦{fullShare} f) : sProp 𝕄) := by
  iintro ⟨⟨%f, Ha⟩, ⟨%f', Hb⟩⟩
  iexists _
  rw [hU]
  iapply (pointsTo_join hD) $$ [Ha Hb]
  isplitl [Ha] <;> iassumption
theorem parts_split (ℓ : Loc nD τ sig) {A B : Finset (Idx ℓ)} (hU : (Finset.univ : Finset (Idx ℓ)) = A ∪ B) (hD : Disjoint A B) :
    (iprop(∃ f, ℓ ↦{fullShare} f) : sProp 𝕄) ⊢ iprop((∃ f, ℓ ↦[A]{fullShare} f) ∗ (∃ f, ℓ ↦[B]{fullShare} f)) := by
  rw [hU]
  iintro ⟨%f, H⟩
  ihave H := (pointsTo_union hD).1 $$ H
  icases H with ⟨Ha, Hb⟩
  isplitl [Ha]
  · iexists f; iexact Ha
  · iexists f; iexact Hb

/-! ## The whole body -/

/-- The tile's body at the buffers and semaphores the body table passes. -/
abbrev tec := cc0__tec_body (F := F) i aFrag (Memref.isWhole_whole _) aAlpha (Memref.isWhole_whole _) aTab (Memref.isWhole_whole _) aOut (Memref.isWhole_whole _)
  bTab (Memref.isWhole_whole _) bFrag (Memref.isWhole_whole _) bAlpha (Memref.isWhole_whole _) bOut (Memref.isWhole_whole _)
  cc0_scratch4 cc0_scratch5 cc0_scratch6 cc0_scratch7 cc0_scratch8 cc0_scratch9 cc0_scoped0

/-- The tile's own buffers, at any contents. -/
abbrev ownBuffers : sProp 𝕄 :=
  iprop((∃ v, bTab.view.loc (VT d i) ↦{fullShare} v) ∗ (∃ v, bFrag.view.loc (VT d i) ↦{fullShare} v)
    ∗ (∃ v, bAlpha.view.loc (VT d i) ↦{fullShare} v) ∗ ∃ v, bOut.view.loc (VT d i) ↦{fullShare} v)

/-- Its seven semaphores at zero. -/
abbrev ownCellsZero : sProp 𝕄 :=
  iprop(semVal (VT d i, .dma cc0_scratch4.sem) 0 ∗ semVal (VT d i, .dma cc0_scratch5.sem) 0 ∗ semVal (VT d i, .dma cc0_scratch6.sem) 0
    ∗ semVal (VT d i, .dma cc0_scratch7.sem) 0 ∗ semVal (VT d i, .dma cc0_scratch8.sem) 0 ∗ semVal (VT d i, .dma cc0_scratch9.sem) 0
    ∗ semVal (VT d i, .dma cc0_scoped0.sem) 0)

/-- The arrays as a tile takes them: a share of the three inputs, and its own row of the result. -/
abbrev holds (q : PosShare TreeShare) (v0 : IVec S8x8x50176 32) (v1 : FVec F S8x8x50176 .f32) (pts : FVec F S4x100000 .f32) (g : FVec F S8x4x50176 .f32) : sProp 𝕄 :=
  iprop((aFrag.view.loc (VT d i) ↦{q} v0) ∗ (aAlpha.view.loc (VT d i) ↦{q} v1) ∗ (aTab.view.loc (VT d i) ↦{q} pts)
    ∗ aOut.view.loc (VT d i) ↦[todoSet (img i) (chan i) 0]{fullShare} g)

theorem wp_tec (q : PosShare TreeShare) (v0 : IVec S8x8x50176 32) (v1 : FVec F S8x8x50176 .f32) (pts : FVec F S4x100000 .f32) (g : FVec F S8x4x50176 .f32)
    (hr : ∀ x, (v0 x).toNat < 100000) (O : CellTallies nD τ sig (HIx 1)) (W : Waits sig (HIx 1)) :
    iprop(MayWaits (VT d i) none O ∗ holds d i q v0 v1 pts g ∗ ownBuffers (F := F) d i ∗ ownCellsZero (F := F) d i ∗ owing (F := F) d i O W)
      ⊢ wp frame (wpE (defs₀ (F := F)) 𝒱₀ (VT d i) none) Set.univ (tec (F := F) i)
        fun _ => iprop(holds d i q v0 v1 pts (rendered v0 v1 pts) ∗ ownBuffers (F := F) d i ∗ ownCellsZero (F := F) d i ∗ owing (F := F) d i O W) := by
  unfold tec
  simp only [cc0__tec_body_eq_skeleton]
  unfold cc0__tec_body_skel
  simp only [k0_part9_eq_skeleton, k0_part10_eq_skeleton]
  unfold k0_part9_skel k0_part10_skel
  simp only [Prog.lift, Prog.bind_op, Prog.bind_ret, Prog.pure_eq_ret, bind_assoc]
  iintro ⟨#Hmw, ⟨HF, HA, HT, Hu⟩, ⟨Ht, Hf, Ha, Ho⟩, ⟨S4, S5, S6, S7, S8, S9, S0⟩, HO⟩
  ihave HF := (Entails.of_eq (share_slots Finset.univ q v0)) $$ HF
  icases HF with ⟨HF0, HF1⟩
  ihave HA := (Entails.of_eq (share_slots Finset.univ q v1)) $$ HA
  icases HA with ⟨HA0, HA1⟩
  ihave Hf := (parts_split (bFrag.view.loc (VT d i)) half_union half_disj) $$ Hf
  icases Hf with ⟨Hf0, Hf1⟩
  ihave Ha := (parts_split (bAlpha.view.loc (VT d i)) half_union half_disj) $$ Ha
  icases Ha with ⟨Ha0, Ha1⟩
  ihave Ho := (parts_split (bOut.view.loc (VT d i)) halfRow_union halfRow_disj) $$ Ho
  icases Ho with ⟨Ho0, Ho1⟩
  iapply (wp_table d i (off1_eq i) O W cc0_scoped0.sem q pts) $$ [Ht S0 HT HO]
  · isplitr; · iexact Hmw
    isplitl [Ht]; · iexact Ht
    isplitl [S0]; · iexact S0
    isplitl [HT] <;> iassumption
  iintro ⟨Ht, S0, HT, HO⟩
  iapply (wp_getFrag d i (b := 0) (j := 0) (off2_eq i) cc0_scratch4.sem (slotShare q 0) v0) $$ [Hf0 S4 HF0]
  · isplitl [Hf0]; · iexact Hf0
    isplitl [S4] <;> iassumption
  iintro Hf0
  iapply (wp_getAlpha d i (b := 0) (j := 0) (off2_eq i) cc0_scratch6.sem (slotShare q 0) v1) $$ [Ha0 S6 HA0]
  · isplitl [Ha0]; · iexact Ha0
    isplitl [S6] <;> iassumption
  iintro Ha0
  iapply (wp_getFrag d i (b := 1) (j := 1) (off3_eq i) cc0_scratch5.sem (slotShare q 1) v0) $$ [Hf1 S5 HF1]
  · isplitl [Hf1]; · iexact Hf1
    isplitl [S5] <;> iassumption
  iintro Hf1
  iapply (wp_getAlpha d i (b := 1) (j := 1) (off3_eq i) cc0_scratch7.sem (slotShare q 1) v1) $$ [Ha1 S7 HA1]
  · isplitl [Ha1]; · iexact Ha1
    isplitl [S7] <;> iassumption
  iintro Ha1
  rw [wp_bind]
  iapply (Scf.wp_for frame (wpE (defs₀ (F := F)) 𝒱₀ (VT d i) none) Set.univ k0_t1_loop.lb k0_t1_loop.ub k0_t1_loop.st k0_t1_ok ⟨⟩ (trip i)
    (fun t _ => iprop(MayWaits (VT d i) none O ∗ between d i (slotShare q 0) (slotShare q 1) v0 v1 pts g O W t))
    (fun t u => wp_trip d i (slotShare q 0) (slotShare q 1) v0 v1 pts g hr O W t u))
  isplitl [Hf0 Ha0 Hf1 Ha1 Ho0 Ho1 S8 S9 Hu Ht HO]
  · isplitr; · iexact Hmw
    iapply (Entails.of_eq (between_zero d i (slotShare q 0) (slotShare q 1) v0 v1 pts g O W).symm)
    isplitl [Hf0 Ha0]
    · isplitl [Hf0] <;> iassumption
    isplitl [Hf1 Ha1]
    · isplitl [Hf1] <;> iassumption
    isplitl [Ho0 S8]
    · isplitl [Ho0] <;> iassumption
    isplitl [Ho1 S9]
    · isplitl [Ho1] <;> iassumption
    isplitr [Hu Ht HO]
    · iapply (Entails.of_eq (written_zero d i (rendered v0 v1 pts)).symm)
      iempintro
    isplitl [Hu]; · iexact Hu
    isplitl [Ht] <;> iassumption
  iintro %_ ⟨-, H⟩
  ihave H := (Entails.of_eq (between_trips d i (slotShare q 0) (slotShare q 1) v0 v1 pts g O W)) $$ H
  icases H with ⟨⟨⟨Hf0, S4, HF0⟩, ⟨Ha0, S6, HA0⟩⟩, ⟨⟨Hf1, S5, HF1⟩, ⟨Ha1, S7, HA1⟩⟩, Hp0, Hp1, Hw, -, Ht, HO⟩
  iapply (wp_was_put d i O W (b := 0) (j := 54) cc0_scratch8.sem (rendered v0 v1 pts)) $$ [Hp0 Hw HO]
  · isplitr; · iexact Hmw
    isplitl [Hp0]; · iexact Hp0
    isplitl [Hw] <;> iassumption
  iintro ⟨Ho0, S8, Hw, HO⟩
  iapply (wp_was_put d i O W (b := 1) (j := 55) cc0_scratch9.sem (rendered v0 v1 pts)) $$ [Hp1 Hw HO]
  · isplitr; · iexact Hmw
    isplitl [Hp1]; · iexact Hp1
    isplitl [Hw] <;> iassumption
  iintro ⟨Ho1, S9, Hw, HO⟩
  rw [wp_ret]; imodintro
  isplitl [HF0 HF1 HA0 HA1 HT Hw]
  · isplitl [HF0 HF1]
    · iapply (Entails.of_eq (share_slots Finset.univ q v0).symm)
      isplitl [HF0] <;> iassumption
    isplitl [HA0 HA1]
    · iapply (Entails.of_eq (share_slots Finset.univ q v1).symm)
      isplitl [HA0] <;> iassumption
    isplitl [HT]; · iexact HT
    iapply (Entails.of_eq (written_all d i (rendered v0 v1 pts)))
    iexact Hw
  isplitl [Ht Hf0 Hf1 Ha0 Ha1 Ho0 Ho1]
  · isplitl [Ht]
    · iexists _; iexact Ht
    isplitl [Hf0 Hf1]
    · iapply (parts_join (bFrag.view.loc (VT d i)) half_union half_disj)
      isplitl [Hf0] <;> iassumption
    isplitl [Ha0 Ha1]
    · iapply (parts_join (bAlpha.view.loc (VT d i)) half_union half_disj)
      isplitl [Ha0] <;> iassumption
    iapply (parts_join (bOut.view.loc (VT d i)) halfRow_union halfRow_disj)
    isplitl [Ho0] <;> iassumption
  isplitr [HO]
  · isplitl [S4]; · iexact S4
    isplitl [S5]; · iexact S5
    isplitl [S6]; · iexact S6
    isplitl [S7]; · iexact S7
    isplitl [S8]; · iexact S8
    isplitl [S9] <;> iassumption
  · iexact HO

end Cert.Proof.Render

end
-- ==== Proof.Deal.lean ====
/- How the arrays are shared out: the inputs as read shares, to the two SparseCores and then to each one's sixteen tiles;
   the result by rows, one to a tile. -/
module

public import proofs.«01_k».proof.Proof.Tile

@[expose] public section

noncomputable section

namespace Cert.Proof.Render

open Cert.KernelIdeal Cert.KernelIdeal.Gen

open Idealize.ShloMosaic Idealize.ShloMosaic.Transfers
open Idealize.ShloMosaic.SparseCore (S V T)
open Idealize.ShloMosaic.SparseCore.Cfg (HIx)
open Idealize.SL Idealize.SL.RA Idealize.SL.BI
open scoped Idealize.SL.BI.BIBase
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Rows -/

/-- Subcore `s` of SparseCore `c`, as coordinates. -/
abbrev tile (c : Fin 2) (s : Fin 16) : grid0.Coords := coordsV c s

theorem img_tile (c : Fin 2) (s : Fin 16) : img (tile c s) = s.val % 4 * 2 + c.val := rfl
theorem chan_tile (c : Fin 2) (s : Fin 16) : chan (tile c s) = s.val / 4 := rfl

/-- The result's elements of one image and channel; and those SparseCore `c` renders: the images of its parity. -/
abbrev rowSet (c : Fin 2) (s : Fin 16) : Finset S8x4x50176.Idx := todoSet (img (tile c s)) (chan (tile c s)) 0
def coreSet (c : Fin 2) : Finset S8x4x50176.Idx := Finset.univ.filter fun x => (x 0).val % 2 = c.val

theorem mem_rowSet (c : Fin 2) (s : Fin 16) (x : S8x4x50176.Idx) : x ∈ rowSet c s ↔ (x 0).val = s.val % 4 * 2 + c.val ∧ (x 1).val = s.val / 4 := by
  simp only [rowSet, todoSet, Finset.mem_filter, Finset.mem_univ, true_and, img_tile, chan_tile, Nat.mul_zero, Nat.zero_le, and_true]

theorem rows_disj (c : Fin 2) : ∀ s ∈ (Finset.univ : Finset (Fin 16)), ∀ s' ∈ (Finset.univ : Finset (Fin 16)), s ≠ s' → Disjoint (rowSet c s) (rowSet c s') := by
  intro s _ s' _ h
  refine Finset.disjoint_left.mpr fun x hx hx' => h (Fin.ext ?_)
  rw [mem_rowSet] at hx hx'
  omega

theorem rows_union (c : Fin 2) : coreSet c = (Finset.univ : Finset (Fin 16)).biUnion (rowSet c) := by
  ext x
  have h0 : (x 0).val < 8 := (x 0).isLt
  have h1 : (x 1).val < 4 := (x 1).isLt
  have hc := c.isLt
  simp only [coreSet, Finset.mem_filter, Finset.mem_univ, true_and, Finset.mem_biUnion, mem_rowSet]
  constructor
  · intro h
    exact ⟨⟨4 * (x 1).val + (x 0).val / 2, by omega⟩, by dsimp only; omega, by dsimp only; omega⟩
  · rintro ⟨s, h, -⟩
    omega

theorem cores_disj : ∀ c ∈ (Finset.univ : Finset (Fin 2)), ∀ c' ∈ (Finset.univ : Finset (Fin 2)), c ≠ c' → Disjoint (coreSet c) (coreSet c') := by
  intro c _ c' _ h
  refine Finset.disjoint_left.mpr fun x hx hx' => h (Fin.ext ?_)
  simp only [coreSet, Finset.mem_filter, Finset.mem_univ, true_and] at hx hx'
  omega

theorem cores_union : (Finset.univ : Finset S8x4x50176.Idx) = (Finset.univ : Finset (Fin 2)).biUnion coreSet := by
  ext x
  simp only [coreSet, Finset.mem_filter, Finset.mem_univ, true_and, Finset.mem_biUnion, true_iff]
  exact ⟨⟨(x 0).val % 2, by omega⟩, rfl⟩

/-! ## Shares -/

/-- The share of the inputs one SparseCore takes, and one tile of it. -/
abbrev coreShare (c : Fin 2) : PosShare TreeShare := dealOf fullShare Finset.univ c
abbrev tileShare (c : Fin 2) (s : Fin 16) : PosShare TreeShare := dealOf (coreShare c) Finset.univ s

variable (d : Dev nD) (v0 : IVec S8x8x50176 32) (v1 : FVec F S8x8x50176 .f32) (pts : FVec F S4x100000 .f32) (g : FVec F S8x4x50176 .f32)

abbrev fragLoc (d : Dev nD) : Loc nD τ sig := (SparseCore.T d).loc main_v0
abbrev alphaLoc (d : Dev nD) : Loc nD τ sig := (SparseCore.T d).loc main_v1
abbrev tabLoc (d : Dev nD) : Loc nD τ sig := (SparseCore.T d).loc main_arg2
abbrev outLoc (d : Dev nD) : Loc nD τ sig := (SparseCore.T d).loc main_v2

/-- The arrays held whole; as one SparseCore takes them; as one of its tiles does. -/
abbrev wholeHolds : sProp 𝕄 :=
  iprop((fragLoc d ↦{fullShare} v0) ∗ (alphaLoc d ↦{fullShare} v1) ∗ (tabLoc d ↦{fullShare} pts) ∗ outLoc d ↦{fullShare} g)
abbrev coreHolds (c : Fin 2) : sProp 𝕄 :=
  iprop((fragLoc d ↦{coreShare c} v0) ∗ (alphaLoc d ↦{coreShare c} v1) ∗ (tabLoc d ↦{coreShare c} pts) ∗ outLoc d ↦[coreSet c]{fullShare} g)
abbrev tileHolds (c : Fin 2) (s : Fin 16) : sProp 𝕄 :=
  iprop((fragLoc d ↦{tileShare c s} v0) ∗ (alphaLoc d ↦{tileShare c s} v1) ∗ (tabLoc d ↦{tileShare c s} pts) ∗ outLoc d ↦[rowSet c s]{fullShare} g)

theorem tileHolds_eq (c : Fin 2) (s : Fin 16) : tileHolds d v0 v1 pts g c s = holds d (tile c s) (tileShare c s) v0 v1 pts g := rfl

theorem sep_four {A A' B B' C C' E E' : sProp 𝕄} (hA : A = A') (hB : B = B') (hC : C = C') (hE : E = E') :
    iprop(A ∗ B ∗ C ∗ E) = iprop(A' ∗ B' ∗ C' ∗ E') := by rw [hA, hB, hC, hE]

theorem whole_cores : (wholeHolds d v0 v1 pts g : sProp 𝕄) = bigSep Finset.univ fun c : Fin 2 => coreHolds d v0 v1 pts g c := by
  have ho : (outLoc d ↦{fullShare} g : sProp 𝕄) = bigSep Finset.univ fun c : Fin 2 => outLoc d ↦[coreSet c]{fullShare} g :=
    (congrArg (fun A : Finset S8x4x50176.Idx => (outLoc d ↦[A]{fullShare} g : sProp 𝕄)) cores_union).trans (pointsTo_biUnion _ _ cores_disj)
  unfold wholeHolds
  rw [bigSep_sep', bigSep_sep', bigSep_sep']
  exact sep_four (pointsTo_deal (Finset.univ : Finset (Fin 2)) Finset.univ_nonempty fullShare)
    (pointsTo_deal (Finset.univ : Finset (Fin 2)) Finset.univ_nonempty fullShare)
    (pointsTo_deal (Finset.univ : Finset (Fin 2)) Finset.univ_nonempty fullShare) ho

theorem core_tiles (c : Fin 2) : (coreHolds d v0 v1 pts g c : sProp 𝕄) = bigSep Finset.univ fun s : Fin 16 => tileHolds d v0 v1 pts g c s := by
  have ho : (outLoc d ↦[coreSet c]{fullShare} g : sProp 𝕄) = bigSep Finset.univ fun s : Fin 16 => outLoc d ↦[rowSet c s]{fullShare} g :=
    (congrArg (fun A : Finset S8x4x50176.Idx => (outLoc d ↦[A]{fullShare} g : sProp 𝕄)) (rows_union c)).trans (pointsTo_biUnion _ _ (rows_disj c))
  unfold coreHolds
  rw [bigSep_sep', bigSep_sep', bigSep_sep']
  exact sep_four (pointsTo_deal (Finset.univ : Finset (Fin 16)) Finset.univ_nonempty (coreShare c))
    (pointsTo_deal (Finset.univ : Finset (Fin 16)) Finset.univ_nonempty (coreShare c))
    (pointsTo_deal (Finset.univ : Finset (Fin 16)) Finset.univ_nonempty (coreShare c)) ho

end Cert.Proof.Render

end
-- ==== Proof.Launch.lean ====
/- The program's run: the call's hand-outs, each tile's obligation, the host's operations around the call, and what the
   whole program leaves: its arguments as they were, its two results computed, every semaphore at zero. -/
module

public import proofs.«01_k».proof.Proof.Deal

@[expose] public section

noncomputable section

namespace Cert.Proof.Render

open Cert.KernelIdeal Cert.KernelIdeal.Gen

open Idealize.ShloMosaic Idealize.ShloMosaic.Transfers
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI.BIBase
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## A subcore's own buffers and semaphores -/

section Own

variable (d : Dev nD) (i : grid0.Coords)

abbrev cell (k : Fin 7) : DmaSem sig := ⟨k.val, k.isLt⟩

theorem cell_mem (k : Fin 7) : ((VT d i, .dma (cell k)) : GSem nD τ sig) ∈ ownCells (VT d i) :=
  mem_ownCells.mpr ⟨rfl, (show ∀ s : DmaSem sig, (SemLoc.dma s : SemLoc sig).isScoped .scVector = true by decide) _⟩

/-- The cells at zero: the seven the body names, and the rest. -/
theorem ownSems0_V :
    (ownSems0 (VT d i) : sProp 𝕄)
      = iprop(ownCellsZero (F := F) d i
          ∗ bigSep ((ownCells (VT d i)) \ Finset.univ.image fun k : Fin 7 => ((VT d i, .dma (cell k)) : GSem nD τ sig)) fun g => semVal g 0) := by
  unfold SparseCore.Cfg.ownSems0
  rw [SparseCore.bigSep_sdiff_split' (t := Finset.univ.image fun k : Fin 7 => ((VT d i, .dma (cell k)) : GSem nD τ sig))
      (Finset.image_subset_iff.mpr fun k _ => cell_mem d i k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev buf : Fin 4 → Ref sig .scVector := ![cc0_scratch0, cc0_scratch1, cc0_scratch2, cc0_scratch3]

theorem buf_mem (k : Fin 4) : (VT d i).2.devRef (buf k) ∈ ownRefs (τ := τ) (VT d i).2 := by
  fin_cases k <;> exact SparseCore.Cfg.mem_ownRefs_of_owner (p := (VT d i).2) rfl

/-- The buffers: the four the body names, at some contents, and the rest. -/
theorem ownBufs_V :
    (ownBufs (VT d i) : sProp 𝕄)
      = iprop(ownBuffers (F := F) d i
          ∗ bigSep ((ownRefs (τ := τ) (VT d i).2) \ Finset.univ.image fun k : Fin 4 => (VT d i).2.devRef (buf k))
              fun b => iprop(∃ f, ((d, b) : Loc nD τ sig) ↦{fullShare} f)) := by
  unfold SparseCore.Cfg.ownBufs
  rw [SparseCore.bigSep_sdiff_split' (t := Finset.univ.image fun k : Fin 4 => (VT d i).2.devRef (buf k))
      (Finset.image_subset_iff.mpr fun k _ => buf_mem d i k),
    SparseCore.bigSep_image_of_injOn (fun a _ b _ h => (show Function.Injective buf by decide) (Proc.devRef_injective _ h))]
  rw [show (Finset.univ : Finset (Fin 4)) = {0, 1, 2, 3} by decide,
    SparseCore.bigSep_insert' (by decide), SparseCore.bigSep_insert' (by decide), SparseCore.bigSep_insert' (by decide), bigSep_singleton]
  rfl

end Own

/-! ## What the call takes and gives back -/

variable (m : (ℓ : Loc nD τ sig) → Buf (Elt F) ℓ)

/-- The arrays at the call: the reshaped inputs, the table, and what is in the result's buffer; and the result. -/
def frags (d : Dev nD) : IVec S8x8x50176 32 := shapeCast S8x8x50176 (m ((SparseCore.T d).loc main_arg0)) shapeCasts_S8x8x224x224_S8x8x50176
def alphas (d : Dev nD) : FVec F S8x8x50176 .f32 := shapeCast S8x8x50176 (m ((SparseCore.T d).loc main_arg1)) shapeCasts_S8x8x224x224_S8x8x50176
abbrev table (d : Dev nD) : FVec F S4x100000 .f32 := m (tabLoc d)
abbrev before (d : Dev nD) : FVec F S8x4x50176 .f32 := m (outLoc d)
def result (d : Dev nD) : FVec F S8x4x50176 .f32 := rendered (frags m d) (alphas m d) (table m d)

/-- The fragment numbers index the table. -/
abbrev InRange : Prop := ∀ d x, (frags m d x).toNat < 100000

def P : (K (F := F)).Pay (nD := nD) (Val := Elt F) (Name := ℕ) (U := UU) where
  st := fun q d c => match q with | 0 => coreHolds d (frags m d) (alphas m d) (table m d) (before m d) (Fin.cast nCore_zero c)
  dn := fun q d c => match q with | 0 => coreHolds d (frags m d) (alphas m d) (table m d) (result m d) (Fin.cast nCore_zero c)
  go := fun q d c s => match q with
    | 0 => tileHolds d (frags m d) (alphas m d) (table m d) (before m d) (Fin.cast nCore_zero c) (Fin.cast nSub_zero s)
  td := fun q d c s => match q with
    | 0 => tileHolds d (frags m d) (alphas m d) (table m d) (result m d) (Fin.cast nCore_zero c) (Fin.cast nSub_zero s)
  x := fun _ _ => iprop(emp)

instance coreHolds_storable (d : Dev nD) (v0 : IVec S8x8x50176 32) (v1 : FVec F S8x8x50176 .f32) (pts : FVec F S4x100000 .f32) (g : FVec F S8x4x50176 .f32) (c : Fin 2) :
    BI.Storable (upEmb : UEmb _ 𝕄) (coreHolds d v0 v1 pts g c) := by unfold coreHolds; infer_instance
instance tileHolds_storable (d : Dev nD) (v0 : IVec S8x8x50176 32) (v1 : FVec F S8x8x50176 .f32) (pts : FVec F S4x100000 .f32) (g : FVec F S8x4x50176 .f32) (c : Fin 2) (s : Fin 16) :
    BI.Storable (upEmb : UEmb _ 𝕄) (tileHolds d v0 v1 pts g c s) := by unfold tileHolds; infer_instance

instance P_storable : (P (F := F) m).IsStorable where
  st q d c := match q with | 0 => coreHolds_storable d _ _ _ _ _
  dn q d c := match q with | 0 => coreHolds_storable d _ _ _ _ _
  go q d c s := match q with | 0 => tileHolds_storable d _ _ _ _ _ _
  td q d c s := match q with | 0 => tileHolds_storable d _ _ _ _ _ _

theorem bigSep_tasks (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's hand-out is its tiles', and their hand-backs are its own. -/
theorem vecSplit : (K (F := F)).VecSplit' (P m) 0 := by
  intro d c
  show coreHolds d (frags m d) (alphas m d) (table m d) (before m d) (Fin.cast nCore_zero c) ⊢ |={Set.univ}=> iprop(
      (bigSep Finset.univ fun s : Fin ((K (F := F)).nSub 0) =>
        tileHolds d (frags m d) (alphas m d) (table m d) (before m d) (Fin.cast nCore_zero c) (Fin.cast nSub_zero s))
      ∗ ((bigSep Finset.univ fun s : Fin ((K (F := F)).nSub 0) =>
          tileHolds d (frags m d) (alphas m d) (table m d) (result m d) (Fin.cast nCore_zero c) (Fin.cast nSub_zero s))
          -∗ coreHolds d (frags m d) (alphas m d) (table m d) (result m d) (Fin.cast nCore_zero c)))
  rw [bigSep_tasks (F := F) fun s => tileHolds d (frags m d) (alphas m d) (table m d) (before m d) (Fin.cast nCore_zero c) s,
    bigSep_tasks (F := F) fun s => tileHolds d (frags m d) (alphas m d) (table m d) (result m d) (Fin.cast nCore_zero c) s,
    core_tiles, core_tiles]
  iintro H; imodintro
  isplitl [H]; · iexact H
  iintro H; iexact H

/-! ## The tiles' obligation -/

theorem tile_body (hr : InRange m) (d : Dev nD) (c : Fin 2) (s : Fin 16) (O : CellTallies nD τ sig (HIx 1)) (W : Waits sig (HIx 1)) (hO : ∀ g, O g none = 0) :
    iprop(levAts (K (F := F)).L (K (F := F)).lev ∗ emp ∗ tileHolds d (frags m d) (alphas m d) (table m d) (before m d) c s
        ∗ scopedBufs (VT d (tile c s)) ∗ scopedSems0 (VT d (tile c s)) ∗ owes (VT d (tile c s)) O W)
      ⊢ wp frame (wpE (defs₀ (F := F)) 𝒱₀ (VT d (tile c s)) none) Set.univ (tec (F := F) (tile c s))
          fun _ => iprop(tileHolds d (frags m d) (alphas m d) (table m d) (result m d) c s
            ∗ scopedBufs (VT d (tile c s)) ∗ scopedSems0 (VT d (tile c s))
            ∗ ∃ W', ⌜∀ p ∈ W', p ∈ W ∨ p.2 = none ∨ p.2 = some (0 : Fin 1)⌝ ∗ owes (VT d (tile c s)) O W') := by
  rw [(K (F := F)).scopedBufs_V facts d ((tile c s 0).castLE hcore0) ((tile c s 1).castLE hsub0),
    SparseCore.Cfg.scopedSems0_V (Val := Elt F) d ((tile c s 0).castLE hcore0) ((tile c s 1).castLE hsub0), ownSems0_V, ownBufs_V]
  iintro ⟨#Hlv, -, Hh, ⟨Hb, Hb'⟩, ⟨Hs, Hs'⟩, HO⟩
  ihave Hmw := (show levAts (K (F := F)).L (K (F := F)).lev ⊢ Transfers.MayWaits (VT d (tile c s)) (default : HIx 1) O from
    (K (F := F)).mayWaits_none (thr := VT d (tile c s)) hO) $$ Hlv
  iapply (wp_wand_r Idealize.ShloMosaic.frame (wpE (defs₀ (F := F)) 𝒱₀ (VT d (tile c s)) none) Set.univ)
  isplitl [Hh Hb Hs HO Hmw]
  · iapply (wp_tec d (tile c s) (tileShare c s) (frags m d) (alphas m d) (table m d) (before m d) (hr d) O W)
    isplitl [Hmw]; · iexact Hmw
    isplitl [Hh]; · iexact Hh
    isplitl [Hb]; · iexact Hb
    isplitl [Hs]; · iexact Hs
    unfold owing
    iexists W; isplitr
    · ipureintro; exact fun p hp => .inl hp
    · iexact HO
  iintro %_ ⟨Hh, Hb, Hs, HO⟩
  isplitl [Hh]; · iexact Hh
  isplitl [Hb Hb']
  · isplitl [Hb] <;> iassumption
  isplitl [Hs Hs']
  · isplitl [Hs] <;> iassumption
  ihave HO := (owing_out d (tile c s) O W) $$ HO
  icases HO with ⟨%W', %hW, HO⟩
  iexists W'; isplitr
  · ipureintro; exact fun p hp => (hW p hp).imp_right .inl
  · iexact HO

theorem defs₀_vector (c : Fin τ.nSC) (s : Fin τ.nSub) :
    defs₀ (F := F) (.scVector c s) 0 () = SparseCore.onTile hcore0 hsub0 (fun c s => tec (F := F) (coordsV c s)) ⟨⟩ c s := rfl

theorem tileObl (hr : InRange m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hcs : ((K (F := F)).core 0 c).val < grid0.bound 0 ∧ ((K (F := F)).sub 0 s).val < grid0.bound 1 := ⟨c.isLt, s.isLt⟩
  rw [defs₀_vector]; simp only [SparseCore.onTile, hcs, and_self, ↓reduceDIte]
  exact tile_body m hr d (Fin.cast nCore_zero c) (Fin.cast nSub_zero s) O W hO

/-! ## What the launch starts from -/

theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

end Cert.Proof.Render

end
-- ==== Proof.Main.lean ====
/- The whole program: the host's operations before and after the call, and what it leaves: the arguments as they were,
   the two results computed, every semaphore at zero. -/
module

public import proofs.«01_k».proof.Proof.Launch

@[expose] public section

noncomputable section

namespace Cert.Proof.Render

open Cert.KernelIdeal Cert.KernelIdeal.Gen

open Idealize.ShloMosaic Idealize.ShloMosaic.Transfers
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI.BIBase
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev c' : DevRef τ sig := Proc.devRef .tc (main_c : Ref sig .tc)
abbrev v4' : DevRef τ sig := Proc.devRef .tc (main_v4 : Ref sig .tc)

abbrev opFrag : HloOp τ sig (Elt F) := StableHlo.reshape main_arg0 main_v0 (rfl : (.i32 : EltTy) = .i32) shapeCasts_S8x8x224x224_S8x8x50176
abbrev opAlpha : HloOp τ sig (Elt F) := StableHlo.reshape main_arg1 main_v1 (rfl : (.f32 : EltTy) = .f32) shapeCasts_S8x8x224x224_S8x8x50176
abbrev opImage : HloOp τ sig (Elt F) := StableHlo.reshape main_v2 main_v3 (rfl : (.f32 : EltTy) = .f32) shapeCasts_S8x4x50176_S8x4x224x224
abbrev opTrue : HloOp τ sig (Elt F) := StableHlo.nullary main_c (constantI S_ 1 1#1)
abbrev opMask : HloOp τ sig (Elt F) := StableHlo.unary main_c main_v4 (broadcastInDim S8x224x224 ![] bcast_S_S8x224x224 : (⟨S_, .i1⟩ : BufTy).Contents (Elt F) → (⟨S8x224x224, .i1⟩ : BufTy).Contents (Elt F))

/-- The program's arrays; those the call takes; the arguments and the results. -/
abbrev allRefs : Finset (DevRef τ sig) := {arg0', arg1', arg2', v0', v1', v2', v3', c', v4'}
abbrev callRefs : Finset (DevRef τ sig) := {v0', v1', arg2', v2'}
abbrev endRefs : Finset (DevRef τ sig) := {arg0', arg1', arg2', v3', v4'}

/-- The contents at the start, after the two reshapes, after the call, and at the end. -/
def V0 (d : Dev nD) : Valuation τ sig (Elt F) := fun b => m (d, b)
def V2 (d : Dev nD) : Valuation τ sig (Elt F) := opAlpha.result (opFrag.result (V0 m d))
def V3 (d : Dev nD) : Valuation τ sig (Elt F) := Function.update (V2 m d) v2' (result m d)
def V6 (d : Dev nD) : Valuation τ sig (Elt F) := opMask.result (opTrue.result (opImage.result (V3 m d)))

theorem V2_v0 (d : Dev nD) : V2 m d v0' = frags m d := by
  unfold V2
  rw [StableHlo.reshape_result_ne (h := (show (main_v0 : Ref sig .tc) ≠ main_v1 by decide))]
  exact StableHlo.reshape_result ..
theorem V2_v1 (d : Dev nD) : V2 m d v1' = alphas m d := by
  unfold V2
  refine (StableHlo.reshape_result ..).trans ?_
  rw [StableHlo.reshape_result_ne (h := (show (main_arg1 : Ref sig .tc) ≠ main_v0 by decide))]
  rfl
theorem V2_of_ne (d : Dev nD) {r : Ref sig .tc} (h0 : r ≠ main_v0) (h1 : r ≠ main_v1) : V2 m d (Proc.devRef .tc r) = m ((SparseCore.T d).loc r) := by
  unfold V2
  rw [StableHlo.reshape_result_ne (h := h1), StableHlo.reshape_result_ne (h := h0)]
  rfl
theorem V3_of_ne (d : Dev nD) {b : DevRef τ sig} (h : b ≠ v2') : V3 m d b = V2 m d b := Function.update_of_ne h _ _
theorem V3_v2 (d : Dev nD) : V3 m d v2' = result m d := Function.update_self _ _ _

/-- The first result: the rendered rows, as images; the second: true everywhere. -/
def image (d : Dev nD) : FVec F S8x4x224x224 .f32 := shapeCast S8x4x224x224 (result m d) shapeCasts_S8x4x50176_S8x4x224x224
def mask : IVec S8x224x224 1 := broadcastInDim S8x224x224 ![] bcast_S_S8x224x224 (constantI S_ 1 1#1)

theorem V6_of_ne (d : Dev nD) {r : Ref sig .tc} (h3 : r ≠ main_v3) (hc : r ≠ main_c) (h4 : r ≠ main_v4) : V6 m d (Proc.devRef .tc r) = V3 m d (Proc.devRef .tc r) := by
  unfold V6
  rw [StableHlo.unary_result_ne (h := h4), StableHlo.nullary_result_ne (h := hc), StableHlo.reshape_result_ne (h := h3)]
theorem V6_arg (d : Dev nD) {r : Ref sig .tc} (h0 : r ≠ main_v0) (h1 : r ≠ main_v1) (h2 : r ≠ main_v2) (h3 : r ≠ main_v3) (hc : r ≠ main_c) (h4 : r ≠ main_v4) :
    V6 m d (Proc.devRef .tc r) = m ((SparseCore.T d).loc r) := by
  rw [V6_of_ne m d h3 hc h4, V3_of_ne m d (fun e => h2 (Proc.devRef_injective _ e)), V2_of_ne m d h0 h1]
theorem V6_v3 (d : Dev nD) : V6 m d v3' = image m d := by
  unfold V6
  rw [StableHlo.unary_result_ne (h := (show (main_v3 : Ref sig .tc) ≠ main_v4 by decide)), StableHlo.nullary_result_ne (h := (show (main_v3 : Ref sig .tc) ≠ main_c by decide))]
  refine (StableHlo.reshape_result ..).trans ?_
  rw [V3_v2]; rfl
theorem V6_v4 (d : Dev nD) : V6 m d v4' = mask := by
  unfold V6
  refine (StableHlo.unary_result ..).trans ?_
  rw [StableHlo.nullary_result]; rfl

/-! ## The arrays held -/

theorem unscoped_held (d : Dev nD) : (unscopedBufs d (fun b => m ((SparseCore.T d).loc b)) : sProp 𝕄) = held (T d) allRefs (V0 m d) := by
  unfold unscopedBufs held
  rw [show allRefs = (Finset.univ.filter fun b : Ref sig .tc => ¬ b.isScoped).image fun b => Proc.devRef .tc b by decide,
    SparseCore.bigSep_image_of_injOn fun a _ b _ h => Proc.devRef_injective _ h]
  rfl

/-- What the call takes, out of all the arrays. -/
theorem held_call (d : Dev nD) (W : Valuation τ sig (Elt F)) :
    (held (T d) allRefs W : sProp 𝕄) = iprop(wholeHolds d (W v0') (W v1') (W arg2') (W v2') ∗ held (T d) (allRefs \ callRefs) W) := by
  unfold held
  rw [SparseCore.bigSep_sdiff_split' (show callRefs ⊆ allRefs by decide)]
  unfold callRefs
  rw [SparseCore.bigSep_insert' (by decide), SparseCore.bigSep_insert' (by decide), SparseCore.bigSep_insert' (by decide), bigSep_singleton]

/-- What the claims read, out of all the arrays. -/
theorem held_end (d : Dev nD) (W : Valuation τ sig (Elt F)) :
    (held (T d) allRefs W : sProp 𝕄) = iprop((((SparseCore.T d).loc main_arg0 ↦{fullShare} W arg0') ∗ ((SparseCore.T d).loc main_arg1 ↦{fullShare} W arg1')
      ∗ ((SparseCore.T d).loc main_arg2 ↦{fullShare} W arg2') ∗ ((SparseCore.T d).loc main_v3 ↦{fullShare} W v3') ∗ (SparseCore.T d).loc main_v4 ↦{fullShare} W v4')
      ∗ held (T d) (allRefs \ endRefs) W) := by
  unfold held
  rw [SparseCore.bigSep_sdiff_split' (show endRefs ⊆ allRefs by decide)]
  unfold endRefs
  rw [SparseCore.bigSep_insert' (by decide), SparseCore.bigSep_insert' (by decide), SparseCore.bigSep_insert' (by decide), SparseCore.bigSep_insert' (by decide), bigSep_singleton]

theorem held_rest (d : Dev nD) : (held (T d) (allRefs \ callRefs) (V2 m d) : sProp 𝕄) = held (T d) (allRefs \ callRefs) (V3 m d) := by
  unfold held
  refine bigSep_congr fun b hb => ?_
  rw [V3_of_ne m d (show b ≠ v2' from fun e => absurd (e ▸ hb) (by decide))]

theorem held_before (d : Dev nD) : (held (T d) allRefs (V2 m d) : sProp 𝕄)
    = iprop(wholeHolds d (frags m d) (alphas m d) (table m d) (before m d) ∗ held (T d) (allRefs \ callRefs) (V3 m d)) := by
  rw [held_call, held_rest, V2_v0, V2_v1, V2_of_ne m d (r := main_arg2) (by decide) (by decide), V2_of_ne m d (r := main_v2) (by decide) (by decide)]

theorem held_after (d : Dev nD) : (held (T d) allRefs (V3 m d) : sProp 𝕄)
    = iprop(wholeHolds d (frags m d) (alphas m d) (table m d) (result m d) ∗ held (T d) (allRefs \ callRefs) (V3 m d)) := by
  rw [held_call, V3_v2, V3_of_ne m d (b := v0') (by decide), V3_of_ne m d (b := v1') (by decide), V3_of_ne m d (b := arg2') (by decide), V2_v0, V2_v1,
    V2_of_ne m d (r := main_arg2) (by decide) (by decide)]

theorem st_eq (d : Dev nD) : (bigSep Finset.univ fun c : Fin ((K (F := F)).nCore 0) => (P m).st 0 d c)
    = wholeHolds d (frags m d) (alphas m d) (table m d) (before m d) :=
  (bigSep_cores (F := F) fun c => coreHolds d (frags m d) (alphas m d) (table m d) (before m d) c).trans (whole_cores d _ _ _ _).symm
theorem dn_eq (d : Dev nD) : (bigSep Finset.univ fun c : Fin ((K (F := F)).nCore 0) => (P m).dn 0 d c)
    = wholeHolds d (frags m d) (alphas m d) (table m d) (result m d) :=
  (bigSep_cores (F := F) fun c => coreHolds d (frags m d) (alphas m d) (table m d) (result m d) c).trans (whole_cores d _ _ _ _).symm

/-! ## The program on one device -/

/-- What the program leaves: the arguments as they were, and the results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_v3 ↦{fullShare} image m d)
    ∗ (SparseCore.T d).loc main_v4 ↦{fullShare} mask)

theorem held_fin (d : Dev nD) : (held (T d) allRefs (V6 m d) : sProp 𝕄) = iprop(FIN m d ∗ held (T d) (allRefs \ endRefs) (V6 m d)) := by
  rw [held_end, V6_v3, V6_v4, V6_arg m d (r := main_arg0) (by decide) (by decide) (by decide) (by decide) (by decide) (by decide),
    V6_arg m d (r := main_arg1) (by decide) (by decide) (by decide) (by decide) (by decide) (by decide),
    V6_arg m d (r := main_arg2) (by decide) (by decide) (by decide) (by decide) (by decide) (by decide)]

theorem opFrag_bufs : (opFrag (F := F)).bufs ⊆ allRefs := show ({arg0', v0'} : Finset (DevRef τ sig)) ⊆ allRefs by decide
theorem opAlpha_bufs : (opAlpha (F := F)).bufs ⊆ allRefs := show ({arg1', v1'} : Finset (DevRef τ sig)) ⊆ allRefs by decide
theorem opImage_bufs : (opImage (F := F)).bufs ⊆ allRefs := show ({v2', v3'} : Finset (DevRef τ sig)) ⊆ allRefs by decide
theorem opTrue_bufs : (opTrue (F := F)).bufs ⊆ allRefs := show ({c'} : Finset (DevRef τ sig)) ⊆ allRefs by decide
theorem opMask_bufs : (opMask (F := F)).bufs ⊆ allRefs := show ({c', v4'} : Finset (DevRef τ sig)) ⊆ allRefs by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFrag) (S := allRefs) opFrag_bufs (V := V0 m d)) $$ [Hb Hheld]
  · isplitl [Hb] <;> iassumption
  iintro ⟨Hb, Hheld⟩
  rw [wp_ret]; imodintro
  iapply (wp_hlo_within 𝒱 (SparseCore.T d) none Set.univ (op := opAlpha) (S := allRefs) opAlpha_bufs (V := opFrag.result (V0 m d))) $$ [Hb Hheld]
  · isplitl [Hb] <;> iassumption
  iintro ⟨Hb, Hheld⟩
  rw [wp_ret]; imodintro
  ihave H := (show (held (T d) allRefs (opAlpha.result (opFrag.result (V0 m d))) : sProp 𝕄) ⊢ _ from Entails.of_eq (held_before (F := F) m d)) $$ Hheld
  icases H with ⟨Hcall, Hrest⟩
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st_eq]; iexact Hcall
  iintro ⟨Hst, Hdn⟩
  ihave Hcall := (Entails.of_eq (dn_eq m d)) $$ Hdn
  iapply (wp_hlo_within 𝒱 (SparseCore.T d) none Set.univ (op := opImage) (S := allRefs) opImage_bufs (V := V3 m d)) $$ [Hb Hcall Hrest]
  · isplitl [Hb]; · iexact Hb
    rw [held_after]
    isplitl [Hcall] <;> iassumption
  iintro ⟨Hb, Hheld⟩
  rw [wp_ret]; imodintro
  iapply (wp_hlo_within 𝒱 (SparseCore.T d) none Set.univ (op := opTrue) (S := allRefs) opTrue_bufs (V := opImage.result (V3 m d))) $$ [Hb Hheld]
  · isplitl [Hb] <;> iassumption
  iintro ⟨Hb, Hheld⟩
  rw [wp_ret]; imodintro
  iapply (wp_hlo_within 𝒱 (SparseCore.T d) none Set.univ (op := opMask) (S := allRefs) opMask_bufs (V := opTrue.result (opImage.result (V3 m d)))) $$ [Hb Hheld]
  · isplitl [Hb] <;> iassumption
  iintro ⟨Hb, Hheld⟩
  rw [wp_ret]; imodintro; imodintro
  ihave H := (show (held (T d) allRefs (opMask.result (opTrue.result (opImage.result (V3 m d)))) : sProp 𝕄) ⊢ _ from Entails.of_eq (held_fin (F := F) m d)) $$ Hheld
  icases H with ⟨Hfin, -⟩
  isplitl [Hst]; · iexact Hst
  isplitr [Hb Hts]
  · iexact Hfin
  isplitl [Hb] <;> iassumption

/-! ## The final state -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v3) = image m d
    ∧ s'.mem.mem ((SparseCore.T d).loc main_v4) = mask

theorem reads (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave %h0 := (reads s' _ _) $$ [H0 HSI]
  · isplitl [H0] <;> iassumption
  ihave %h1 := (reads s' _ _) $$ [H1 HSI]
  · isplitl [H1] <;> iassumption
  ihave %h2 := (reads s' _ _) $$ [H2 HSI]
  · isplitl [H2] <;> iassumption
  ihave %h3 := (reads s' _ _) $$ [H3 HSI]
  · isplitl [H3] <;> iassumption
  ihave %h4 := (reads s' _ _) $$ [H4 HSI]
  · isplitl [H4] <;> iassumption
  ipureintro; exact ⟨h0, h1, h2, h3, h4⟩

def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v3) = image m d
    ∧ r.2.mem ((SparseCore.T d).loc main_v4) = mask) ∧ r.2.sem = fun _ => 0

theorem run_main [∀ e, Nonempty (Elt F e)] (hr : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Render

end
-- ==== Proof.Agree.lean ====
/- The kernel's image and the reference's are the same sums of extended reals, and both masks are all true. -/
module

public import proofs.«01_k».proof.Proof.Reference
public import proofs.«01_k».proof.Proof.Main
public import proofs.«01_k».proof.Proof.Gen.Pre_fragments_in_range

@[expose] public section

noncomputable section

namespace Cert.Proof.Agree

open Cert.KernelIdeal Cert.KernelIdeal.Gen Cert.Proof.Render
open Cert.Proof.Compositing (rest along composed behind one_bits zero_bits composed_apply behind_eq)
open Idealize.ShloMosaic Idealize.SL.Sem

/-! ## The range of the fragment numbers -/

section Range

variable {F : FTy → Type} [FloatOps F]

theorem lt_of_tests {w : BitVec 32} (h : IntOp.andi (IntOp.cmpi .sge w 0#32) (IntOp.cmpi .slt w 100000#32) = 1#1) : w.toNat < 100000 := by
  rcases hp : (0#32).sle w with _ | _
  · simp [IntOp.cmpi, IntOp.andi, hp] at h
  rcases hq : w.slt 100000#32 with _ | _
  · simp [IntOp.cmpi, IntOp.andi, hp, hq] at h
  rw [BitVec.sle_eq_decide, decide_eq_true_iff] at hp
  rw [BitVec.slt_eq_decide, decide_eq_true_iff] at hq
  have hz : (0#32).toInt = 0 := by decide
  have hl : (100000#32).toInt = 100000 := by decide
  rw [hz] at hp
  rw [hl] at hq
  have hw := w.isLt
  rw [BitVec.toInt_eq_toNat_cond] at hp hq
  split at hp <;> omega

/-- The precondition, element by element. -/
theorem lt_of_pre {fr : IVec S8x8x224x224 32} {al : FVec F S8x8x224x224 .f32} {pts : FVec F S4x100000 .f32}
    (h : Cert.Pre_fragments_in_range.fn fr al pts = fun _ => 1#1) (x : S8x8x224x224.Idx) : (fr x).toNat < 100000 :=
  lt_of_tests (congrFun h x)

theorem inRange {m : (ℓ : Loc nD τ sig) → Buf (Elt F) ℓ}
    (h : ∀ d, Cert.Pre_fragments_in_range.fn (F := F) (m ((SparseCore.T d).loc main_arg0)) (m ((SparseCore.T d).loc main_arg1)) (m ((SparseCore.T d).loc main_arg2)) = fun _ => 1#1) :
    InRange m := fun d _ => lt_of_pre (h d) _

end Range

/-! ## One pixel -/

theorem blend_rest (a f : ℕ → EReal) (k : ℕ) : (blend (F := Ideal) a f k).2 = rest a k := by
  induction k with
  | zero => exact one_bits
  | succ k ih =>
    show (blend (F := Ideal) a f k).2 * (Ideal.ofBits .f32 0x3F800000#32 - a k) = rest a k * (1 - a k)
    rw [ih, one_bits]

theorem blend_sum (a f : ℕ → EReal) (k : ℕ) : (blend (F := Ideal) a f k).1 = ∑ i : Fin k, a i * rest a i * f i := by
  induction k with
  | zero => exact zero_bits
  | succ k ih =>
    refine Eq.trans ?_ (Fin.sum_univ_castSucc fun i : Fin (k + 1) => a i * rest a i * f i).symm
    show (blend (F := Ideal) a f k).1 + a k * (blend (F := Ideal) a f k).2 * f k = (∑ i : Fin k, a i * rest a i * f i) + a k * rest a k * f k
    rw [ih, blend_rest]

/-! ## The image -/

section Image

variable (m : (ℓ : Loc nD τ sig) → Buf (Elt Ideal) ℓ) (d : Dev nD)

abbrev fragments : IVec S8x8x224x224 32 := m ((SparseCore.T d).loc main_arg0)
abbrev opacities : FVec Ideal S8x8x224x224 .f32 := m ((SparseCore.T d).loc main_arg1)
abbrev points : FVec Ideal S4x100000 .f32 := m ((SparseCore.T d).loc main_arg2)

theorem flat_apply {α : Type} (v : S8x8x224x224.Idx → α) (n k : Fin 8) (y x : Fin 224) :
    shapeCast S8x8x50176 v shapeCasts_S8x8x224x224_S8x8x50176 (ixIn n k (224 * y + x)) = v (ix4 n k y x) := by
  refine shapeCast_apply _ _ _ _ ?_
  rw [Shape.rowMajor_val_four, Shape.rowMajor_val_three]
  show ((n.val * 8 + k.val) * 224 + y.val) * 224 + x.val = (n.val % 8 * 8 + k.val % 8) * 50176 + (224 * y.val + x.val) % 50176
  have := n.isLt; have := k.isLt; have := y.isLt; have := x.isLt
  omega

theorem image_apply (hr : ∀ x, (fragments m d x).toNat < 100000) (n : Fin 8) (c : Fin 4) (y x : Fin 224) :
    image m d (ix4 n c y x)
      = ∑ k : Fin 8, along (opacities m d) n y x k * rest (along (opacities m d) n y x) k
          * points m d (ix2 c ⟨(fragments m d (ix4 n k y x)).toNat, hr _⟩) := by
  have hp : 224 * y.val + x.val < 50176 := by have := y.isLt; have := x.isLt; omega
  unfold image
  rw [shapeCast_apply _ _ _ (ix3 n c ⟨224 * y + x, hp⟩) (by
    rw [Shape.rowMajor_val_four, Shape.rowMajor_val_three]
    show (n.val * 4 + c.val) * 50176 + (224 * y.val + x.val) = ((n.val * 4 + c.val) * 224 + y.val) * 224 + x.val
    omega)]
  show pixel (fun k => alphas m d (ixIn n k (224 * y + x))) (fun k => table m d (ixPts c (frags m d (ixIn n k (224 * y + x))).toNat)) = _
  have ha : ∀ k < 8, alphas m d (ixIn n k (224 * y + x)) = along (opacities m d) n y x k := fun k hk => by
    have e := flat_apply (opacities m d) n ⟨k, hk⟩ y x
    rw [show alphas m d (ixIn n k (224 * y + x)) = _ from e]
    exact congrArg (fun i => opacities m d (ix4 n i y x)) (Fin.ext (Nat.mod_eq_of_lt hk).symm)
  rw [pixel_congr ha fun _ _ => rfl]
  refine (blend_sum _ _ 8).trans (Finset.sum_congr rfl fun k _ => ?_)
  have hf : frags m d (ixIn n k (224 * y + x)) = fragments m d (ix4 n k y x) := flat_apply (fragments m d) n k y x
  rw [hf]
  refine congrArg (fun i => _ * points m d i) (ixN_eq _ fun a => ?_)
  fin_cases a <;> rfl

theorem image_eq (hr : ∀ x, (fragments m d x).toNat < 100000) :
    image m d = composed (fragments m d) (opacities m d) (points m d) := funext fun z => by
  rw [eq_ix4 z]
  exact (image_apply m d hr (z 0) (z 1) (z 2) (z 3)).trans (composed_apply _ _ hr (z 0) (z 1) (z 2) (z 3)).symm

theorem mask_eq (hr : ∀ x, (fragments m d x).toNat < 100000) : mask = noti (behind (fragments m d)) := funext fun z => by
  show 1#1 = ~~~(behind (fragments m d) z)
  rw [behind_eq hr]; rfl

end Image

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_fragments_in_range
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments and ends with every semaphore at zero. -/
theorem frame_kernel : Cert.quiescent_Kernel := fun m g h =>
  (θ_run Cert.Kernel.defs _ _).mono (fun _ e => ⟨fun c => ⟨(e.1 c).1, (e.1 c).2.1, (e.1 c).2.2.1⟩, e.2⟩)
    (Render.run_main (F := Bits) m g (Agree.inRange h))

theorem frame_ideal : Cert.quiescent_KernelIdeal := fun m g h =>
  (θ_run Cert.KernelIdeal.defs _ _).mono (fun _ e => ⟨fun c => ⟨(e.1 c).1, (e.1 c).2.1, (e.1 c).2.2.1⟩, e.2⟩)
    (Render.run_main (F := Ideal) m g (Agree.inRange h))

theorem frame_reference : Cert.quiescent_ReferenceIdeal := fun m g _ =>
  (θ_run Cert.ReferenceIdeal.defs _ _).mono (fun r e => ⟨fun c => (e c).2.2, sem_eq_zero_of_no_sems (by decide) r.2⟩)
    (Cert.ReferenceIdeal.Value.run (F := Ideal) m g)

/-- From memories agreeing on the arguments, the kernel and the reference end with equal results. -/
theorem agree : Cert.algebraic_KernelIdeal_ReferenceIdeal := fun m g m' g' h ha => by
  have hr : ∀ d x, (Agree.fragments m d x).toNat < 100000 := fun d => Agree.lt_of_pre (h d)
  refine ⟨fun c => Render.image m c, fun _ => Render.mask, ?_, ?_⟩
  · exact (θ_run Cert.KernelIdeal.defs _ _).mono
      (fun _ e c => ⟨(e.1 c).2.2.2.1, (e.1 c).2.2.2.2, (e.1 c).1, (e.1 c).2.1, (e.1 c).2.2.1⟩)
      (Render.run_main (F := Ideal) m g (Agree.inRange h))
  · refine (θ_run Cert.ReferenceIdeal.defs _ _).mono (fun _ e c => ⟨?_, ?_, (e c).2.2⟩) (Cert.ReferenceIdeal.Value.run (F := Ideal) m' g')
    · refine ((e c).1.trans (Compositing.res_eq m' c)).trans ?_
      rw [(ha c).1, (ha c).2.1, (ha c).2.2]
      exact (Agree.image_eq m c (hr c)).symm
    · rw [(e c).2.1, (ha c).1]
      exact (Agree.mask_eq m c (hr c)).symm

theorem claim : Cert.Claim := ⟨Cert.Kernel.Gen.facts, Cert.KernelIdeal.Gen.facts, Cert.ReferenceIdeal.Gen.facts, Cert.Pre_fragments_in_range.Gen.facts,
  frame_kernel, frame_ideal, frame_reference, fun m g _ => frame_reference m g trivial, trivial, agree⟩

end Cert.Proof

end
